-- ==== Defs.lean ====
def Pre_KW (m : (ℓ : Loc Cert.KW.nD Cert.KW.τ Cert.KW.sig) → Buf (Elt Bits) ℓ) : Prop :=
  True

def Pre_KWIdeal (m : (ℓ : Loc Cert.KWIdeal.nD Cert.KWIdeal.τ Cert.KWIdeal.sig) → Buf (Elt Ideal) ℓ) : Prop :=
  True

def Pre_RWIdeal (m : (ℓ : Loc Cert.RWIdeal.nD Cert.RWIdeal.τ Cert.RWIdeal.sig) → Buf (Elt Ideal) ℓ) : Prop :=
  True

def Pre_KM (m : (ℓ : Loc Cert.KM.nD Cert.KM.τ Cert.KM.sig) → Buf (Elt Bits) ℓ) : Prop :=
  True

def Pre_KMIdeal (m : (ℓ : Loc Cert.KMIdeal.nD Cert.KMIdeal.τ Cert.KMIdeal.sig) → Buf (Elt Ideal) ℓ) : Prop :=
  True

def Pre_RMIdeal (m : (ℓ : Loc Cert.RMIdeal.nD Cert.RMIdeal.τ Cert.RMIdeal.sig) → Buf (Elt Ideal) ℓ) : Prop :=
  True

def quiescent_KW [hKW : Cert.KW.Facts] : Prop :=
  ∀ (m : (ℓ : Loc Cert.KW.nD Cert.KW.τ Cert.KW.sig) → Buf (Elt Bits) ℓ) (g : Dev Cert.KW.nD → PrngReg), Pre_KW m →
    θ_run (Cert.KW.defs (F := Bits)) (onTc (τ := Cert.KW.τ) (Cert.KW.main (F := Bits))) ⟨m, fun _ => 0, g⟩ (fun r => (∀ c : Dev Cert.KW.nD,
      r.2.mem ((c.tc : Thread Cert.KW.nD Cert.KW.τ).loc Cert.KW.main_arg0) = m ((c.tc : Thread Cert.KW.nD Cert.KW.τ).loc Cert.KW.main_arg0)
      ∧ r.2.mem ((c.tc : Thread Cert.KW.nD Cert.KW.τ).loc Cert.KW.main_arg1) = m ((c.tc : Thread Cert.KW.nD Cert.KW.τ).loc Cert.KW.main_arg1))
      ∧ r.2.sem = fun _ => 0)

def quiescent_KWIdeal [hKWIdeal : Cert.KWIdeal.Facts] : Prop :=
  ∀ (m : (ℓ : Loc Cert.KWIdeal.nD Cert.KWIdeal.τ Cert.KWIdeal.sig) → Buf (Elt Ideal) ℓ) (g : Dev Cert.KWIdeal.nD → PrngReg), Pre_KWIdeal m →
    θ_run (Cert.KWIdeal.defs (F := Ideal)) (onTc (τ := Cert.KWIdeal.τ) (Cert.KWIdeal.main (F := Ideal))) ⟨m, fun _ => 0, g⟩ (fun r => (∀ c : Dev Cert.KWIdeal.nD,
      r.2.mem ((c.tc : Thread Cert.KWIdeal.nD Cert.KWIdeal.τ).loc Cert.KWIdeal.main_arg0) = m ((c.tc : Thread Cert.KWIdeal.nD Cert.KWIdeal.τ).loc Cert.KWIdeal.main_arg0)
      ∧ r.2.mem ((c.tc : Thread Cert.KWIdeal.nD Cert.KWIdeal.τ).loc Cert.KWIdeal.main_arg1) = m ((c.tc : Thread Cert.KWIdeal.nD Cert.KWIdeal.τ).loc Cert.KWIdeal.main_arg1))
      ∧ r.2.sem = fun _ => 0)

def quiescent_RWIdeal [hRWIdeal : Cert.RWIdeal.Facts] : Prop :=
  ∀ (m : (ℓ : Loc Cert.RWIdeal.nD Cert.RWIdeal.τ Cert.RWIdeal.sig) → Buf (Elt Ideal) ℓ) (g : Dev Cert.RWIdeal.nD → PrngReg), Pre_RWIdeal m →
    θ_run (Cert.RWIdeal.defs (F := Ideal)) (onTc (τ := Cert.RWIdeal.τ) (Cert.RWIdeal.main (F := Ideal))) ⟨m, fun _ => 0, g⟩ (fun r => (∀ c : Dev Cert.RWIdeal.nD,
      r.2.mem ((c.tc : Thread Cert.RWIdeal.nD Cert.RWIdeal.τ).loc Cert.RWIdeal.main_arg0) = m ((c.tc : Thread Cert.RWIdeal.nD Cert.RWIdeal.τ).loc Cert.RWIdeal.main_arg0)
      ∧ r.2.mem ((c.tc : Thread Cert.RWIdeal.nD Cert.RWIdeal.τ).loc Cert.RWIdeal.main_arg1) = m ((c.tc : Thread Cert.RWIdeal.nD Cert.RWIdeal.τ).loc Cert.RWIdeal.main_arg1))
      ∧ r.2.sem = fun _ => 0)

def quiescent_KM [hKM : Cert.KM.Facts] : Prop :=
  ∀ (m : (ℓ : Loc Cert.KM.nD Cert.KM.τ Cert.KM.sig) → Buf (Elt Bits) ℓ) (g : Dev Cert.KM.nD → PrngReg), Pre_KM m →
    θ_run (Cert.KM.defs (F := Bits)) (onTc (τ := Cert.KM.τ) (Cert.KM.main (F := Bits))) ⟨m, fun _ => 0, g⟩ (fun r => (∀ c : Dev Cert.KM.nD,
      r.2.mem ((c.tc : Thread Cert.KM.nD Cert.KM.τ).loc Cert.KM.main_arg0) = m ((c.tc : Thread Cert.KM.nD Cert.KM.τ).loc Cert.KM.main_arg0)
      ∧ r.2.mem ((c.tc : Thread Cert.KM.nD Cert.KM.τ).loc Cert.KM.main_arg1) = m ((c.tc : Thread Cert.KM.nD Cert.KM.τ).loc Cert.KM.main_arg1)
      ∧ r.2.mem ((c.tc : Thread Cert.KM.nD Cert.KM.τ).loc Cert.KM.main_arg2) = m ((c.tc : Thread Cert.KM.nD Cert.KM.τ).loc Cert.KM.main_arg2)
      ∧ r.2.mem ((c.tc : Thread Cert.KM.nD Cert.KM.τ).loc Cert.KM.main_arg3) = m ((c.tc : Thread Cert.KM.nD Cert.KM.τ).loc Cert.KM.main_arg3)
      ∧ r.2.mem ((c.tc : Thread Cert.KM.nD Cert.KM.τ).loc Cert.KM.main_arg4) = m ((c.tc : Thread Cert.KM.nD Cert.KM.τ).loc Cert.KM.main_arg4)
      ∧ r.2.mem ((c.tc : Thread Cert.KM.nD Cert.KM.τ).loc Cert.KM.main_arg5) = m ((c.tc : Thread Cert.KM.nD Cert.KM.τ).loc Cert.KM.main_arg5))
      ∧ r.2.sem = fun _ => 0)

def quiescent_KMIdeal [hKMIdeal : Cert.KMIdeal.Facts] : Prop :=
  ∀ (m : (ℓ : Loc Cert.KMIdeal.nD Cert.KMIdeal.τ Cert.KMIdeal.sig) → Buf (Elt Ideal) ℓ) (g : Dev Cert.KMIdeal.nD → PrngReg), Pre_KMIdeal m →
    θ_run (Cert.KMIdeal.defs (F := Ideal)) (onTc (τ := Cert.KMIdeal.τ) (Cert.KMIdeal.main (F := Ideal))) ⟨m, fun _ => 0, g⟩ (fun r => (∀ c : Dev Cert.KMIdeal.nD,
      r.2.mem ((c.tc : Thread Cert.KMIdeal.nD Cert.KMIdeal.τ).loc Cert.KMIdeal.main_arg0) = m ((c.tc : Thread Cert.KMIdeal.nD Cert.KMIdeal.τ).loc Cert.KMIdeal.main_arg0)
      ∧ r.2.mem ((c.tc : Thread Cert.KMIdeal.nD Cert.KMIdeal.τ).loc Cert.KMIdeal.main_arg1) = m ((c.tc : Thread Cert.KMIdeal.nD Cert.KMIdeal.τ).loc Cert.KMIdeal.main_arg1)
      ∧ r.2.mem ((c.tc : Thread Cert.KMIdeal.nD Cert.KMIdeal.τ).loc Cert.KMIdeal.main_arg2) = m ((c.tc : Thread Cert.KMIdeal.nD Cert.KMIdeal.τ).loc Cert.KMIdeal.main_arg2)
      ∧ r.2.mem ((c.tc : Thread Cert.KMIdeal.nD Cert.KMIdeal.τ).loc Cert.KMIdeal.main_arg3) = m ((c.tc : Thread Cert.KMIdeal.nD Cert.KMIdeal.τ).loc Cert.KMIdeal.main_arg3)
      ∧ r.2.mem ((c.tc : Thread Cert.KMIdeal.nD Cert.KMIdeal.τ).loc Cert.KMIdeal.main_arg4) = m ((c.tc : Thread Cert.KMIdeal.nD Cert.KMIdeal.τ).loc Cert.KMIdeal.main_arg4)
      ∧ r.2.mem ((c.tc : Thread Cert.KMIdeal.nD Cert.KMIdeal.τ).loc Cert.KMIdeal.main_arg5) = m ((c.tc : Thread Cert.KMIdeal.nD Cert.KMIdeal.τ).loc Cert.KMIdeal.main_arg5))
      ∧ r.2.sem = fun _ => 0)

def quiescent_RMIdeal [hRMIdeal : Cert.RMIdeal.Facts] : Prop :=
  ∀ (m : (ℓ : Loc Cert.RMIdeal.nD Cert.RMIdeal.τ Cert.RMIdeal.sig) → Buf (Elt Ideal) ℓ) (g : Dev Cert.RMIdeal.nD → PrngReg), Pre_RMIdeal m →
    θ_run (Cert.RMIdeal.defs (F := Ideal)) (onTc (τ := Cert.RMIdeal.τ) (Cert.RMIdeal.main (F := Ideal))) ⟨m, fun _ => 0, g⟩ (fun r => (∀ c : Dev Cert.RMIdeal.nD,
      r.2.mem ((c.tc : Thread Cert.RMIdeal.nD Cert.RMIdeal.τ).loc Cert.RMIdeal.main_arg0) = m ((c.tc : Thread Cert.RMIdeal.nD Cert.RMIdeal.τ).loc Cert.RMIdeal.main_arg0)
      ∧ r.2.mem ((c.tc : Thread Cert.RMIdeal.nD Cert.RMIdeal.τ).loc Cert.RMIdeal.main_arg1) = m ((c.tc : Thread Cert.RMIdeal.nD Cert.RMIdeal.τ).loc Cert.RMIdeal.main_arg1)
      ∧ r.2.mem ((c.tc : Thread Cert.RMIdeal.nD Cert.RMIdeal.τ).loc Cert.RMIdeal.main_arg2) = m ((c.tc : Thread Cert.RMIdeal.nD Cert.RMIdeal.τ).loc Cert.RMIdeal.main_arg2)
      ∧ r.2.mem ((c.tc : Thread Cert.RMIdeal.nD Cert.RMIdeal.τ).loc Cert.RMIdeal.main_arg3) = m ((c.tc : Thread Cert.RMIdeal.nD Cert.RMIdeal.τ).loc Cert.RMIdeal.main_arg3)
      ∧ r.2.mem ((c.tc : Thread Cert.RMIdeal.nD Cert.RMIdeal.τ).loc Cert.RMIdeal.main_arg4) = m ((c.tc : Thread Cert.RMIdeal.nD Cert.RMIdeal.τ).loc Cert.RMIdeal.main_arg4)
      ∧ r.2.mem ((c.tc : Thread Cert.RMIdeal.nD Cert.RMIdeal.τ).loc Cert.RMIdeal.main_arg5) = m ((c.tc : Thread Cert.RMIdeal.nD Cert.RMIdeal.τ).loc Cert.RMIdeal.main_arg5))
      ∧ r.2.sem = fun _ => 0)

def preserves_KW_KWIdeal : Prop :=
  True

def algebraic_KWIdeal_RWIdeal [hKWIdeal : Cert.KWIdeal.Facts] [hRWIdeal : Cert.RWIdeal.Facts] : Prop :=
  ∀ (m : (ℓ : Loc Cert.KWIdeal.nD Cert.KWIdeal.τ Cert.KWIdeal.sig) → Buf (Elt Ideal) ℓ) (g : Dev Cert.KWIdeal.nD → PrngReg)
    (m' : (ℓ : Loc Cert.RWIdeal.nD Cert.RWIdeal.τ Cert.RWIdeal.sig) → Buf (Elt Ideal) ℓ) (g' : Dev Cert.RWIdeal.nD → PrngReg), Pre_KWIdeal m →
    (∀ c : Dev Cert.KWIdeal.nD,
      m' ((c.tc : Thread Cert.RWIdeal.nD Cert.RWIdeal.τ).loc Cert.RWIdeal.main_arg0) = m ((c.tc : Thread Cert.KWIdeal.nD Cert.KWIdeal.τ).loc Cert.KWIdeal.main_arg0)
      ∧ m' ((c.tc : Thread Cert.RWIdeal.nD Cert.RWIdeal.τ).loc Cert.RWIdeal.main_arg1) = m ((c.tc : Thread Cert.KWIdeal.nD Cert.KWIdeal.τ).loc Cert.KWIdeal.main_arg1)) →
    ∃ (v0 : (c : Dev Cert.KWIdeal.nD) → Buf (Elt Ideal) ((c.tc : Thread Cert.KWIdeal.nD Cert.KWIdeal.τ).loc Cert.KWIdeal.main_v0_0)) (v1 : (c : Dev Cert.KWIdeal.nD) → Buf (Elt Ideal) ((c.tc : Thread Cert.KWIdeal.nD Cert.KWIdeal.τ).loc Cert.KWIdeal.main_v0_1)) (v2 : (c : Dev Cert.KWIdeal.nD) → Buf (Elt Ideal) ((c.tc : Thread Cert.KWIdeal.nD Cert.KWIdeal.τ).loc Cert.KWIdeal.main_v0_2)),
      θ_run (Cert.KWIdeal.defs (F := Ideal)) (onTc (τ := Cert.KWIdeal.τ) (Cert.KWIdeal.main (F := Ideal))) ⟨m, fun _ => 0, g⟩ (fun r => ∀ c : Dev Cert.KWIdeal.nD,
          r.2.mem ((c.tc : Thread Cert.KWIdeal.nD Cert.KWIdeal.τ).loc Cert.KWIdeal.main_v0_0) = v0 c
          ∧ r.2.mem ((c.tc : Thread Cert.KWIdeal.nD Cert.KWIdeal.τ).loc Cert.KWIdeal.main_v0_1) = v1 c
          ∧ r.2.mem ((c.tc : Thread Cert.KWIdeal.nD Cert.KWIdeal.τ).loc Cert.KWIdeal.main_v0_2) = v2 c
          ∧ r.2.mem ((c.tc : Thread Cert.KWIdeal.nD Cert.KWIdeal.τ).loc Cert.KWIdeal.main_arg0) = m ((c.tc : Thread Cert.KWIdeal.nD Cert.KWIdeal.τ).loc Cert.KWIdeal.main_arg0)
          ∧ r.2.mem ((c.tc : Thread Cert.KWIdeal.nD Cert.KWIdeal.τ).loc Cert.KWIdeal.main_arg1) = m ((c.tc : Thread Cert.KWIdeal.nD Cert.KWIdeal.τ).loc Cert.KWIdeal.main_arg1))
      ∧ θ_run (Cert.RWIdeal.defs (F := Ideal)) (onTc (τ := Cert.RWIdeal.τ) (Cert.RWIdeal.main (F := Ideal))) ⟨m', fun _ => 0, g'⟩ (fun r => ∀ c : Dev Cert.RWIdeal.nD,
          r.2.mem ((c.tc : Thread Cert.RWIdeal.nD Cert.RWIdeal.τ).loc Cert.RWIdeal.main_v36) = v0 c
          ∧ r.2.mem ((c.tc : Thread Cert.RWIdeal.nD Cert.RWIdeal.τ).loc Cert.RWIdeal.main_v41) = v1 c
          ∧ r.2.mem ((c.tc : Thread Cert.RWIdeal.nD Cert.RWIdeal.τ).loc Cert.RWIdeal.main_v42) = v2 c
          ∧ r.2.mem ((c.tc : Thread Cert.RWIdeal.nD Cert.RWIdeal.τ).loc Cert.RWIdeal.main_arg0) = m' ((c.tc : Thread Cert.RWIdeal.nD Cert.RWIdeal.τ).loc Cert.RWIdeal.main_arg0)
          ∧ r.2.mem ((c.tc : Thread Cert.RWIdeal.nD Cert.RWIdeal.τ).loc Cert.RWIdeal.main_arg1) = m' ((c.tc : Thread Cert.RWIdeal.nD Cert.RWIdeal.τ).loc Cert.RWIdeal.main_arg1))

def preserves_KM_KMIdeal : Prop :=
  True

def algebraic_KMIdeal_RMIdeal [hKMIdeal : Cert.KMIdeal.Facts] [hRMIdeal : Cert.RMIdeal.Facts] : Prop :=
  ∀ (m : (ℓ : Loc Cert.KMIdeal.nD Cert.KMIdeal.τ Cert.KMIdeal.sig) → Buf (Elt Ideal) ℓ) (g : Dev Cert.KMIdeal.nD → PrngReg)
    (m' : (ℓ : Loc Cert.RMIdeal.nD Cert.RMIdeal.τ Cert.RMIdeal.sig) → Buf (Elt Ideal) ℓ) (g' : Dev Cert.RMIdeal.nD → PrngReg), Pre_KMIdeal m →
    (∀ c : Dev Cert.KMIdeal.nD,
      m' ((c.tc : Thread Cert.RMIdeal.nD Cert.RMIdeal.τ).loc Cert.RMIdeal.main_arg0) = m ((c.tc : Thread Cert.KMIdeal.nD Cert.KMIdeal.τ).loc Cert.KMIdeal.main_arg0)
      ∧ m' ((c.tc : Thread Cert.RMIdeal.nD Cert.RMIdeal.τ).loc Cert.RMIdeal.main_arg1) = m ((c.tc : Thread Cert.KMIdeal.nD Cert.KMIdeal.τ).loc Cert.KMIdeal.main_arg1)
      ∧ m' ((c.tc : Thread Cert.RMIdeal.nD Cert.RMIdeal.τ).loc Cert.RMIdeal.main_arg2) = m ((c.tc : Thread Cert.KMIdeal.nD Cert.KMIdeal.τ).loc Cert.KMIdeal.main_arg2)
      ∧ m' ((c.tc : Thread Cert.RMIdeal.nD Cert.RMIdeal.τ).loc Cert.RMIdeal.main_arg3) = m ((c.tc : Thread Cert.KMIdeal.nD Cert.KMIdeal.τ).loc Cert.KMIdeal.main_arg3)
      ∧ m' ((c.tc : Thread Cert.RMIdeal.nD Cert.RMIdeal.τ).loc Cert.RMIdeal.main_arg4) = m ((c.tc : Thread Cert.KMIdeal.nD Cert.KMIdeal.τ).loc Cert.KMIdeal.main_arg4)
      ∧ m' ((c.tc : Thread Cert.RMIdeal.nD Cert.RMIdeal.τ).loc Cert.RMIdeal.main_arg5) = m ((c.tc : Thread Cert.KMIdeal.nD Cert.KMIdeal.τ).loc Cert.KMIdeal.main_arg5)) →
    ∃ (v0 : (c : Dev Cert.KMIdeal.nD) → Buf (Elt Ideal) ((c.tc : Thread Cert.KMIdeal.nD Cert.KMIdeal.τ).loc Cert.KMIdeal.main_v0_0)) (v1 : (c : Dev Cert.KMIdeal.nD) → Buf (Elt Ideal) ((c.tc : Thread Cert.KMIdeal.nD Cert.KMIdeal.τ).loc Cert.KMIdeal.main_v0_1)) (v2 : (c : Dev Cert.KMIdeal.nD) → Buf (Elt Ideal) ((c.tc : Thread Cert.KMIdeal.nD Cert.KMIdeal.τ).loc Cert.KMIdeal.main_v0_2)) (v3 : (c : Dev Cert.KMIdeal.nD) → Buf (Elt Ideal) ((c.tc : Thread Cert.KMIdeal.nD Cert.KMIdeal.τ).loc Cert.KMIdeal.main_v0_3)) (v4 : (c : Dev Cert.KMIdeal.nD) → Buf (Elt Ideal) ((c.tc : Thread Cert.KMIdeal.nD Cert.KMIdeal.τ).loc Cert.KMIdeal.main_v0_4)) (v5 : (c : Dev Cert.KMIdeal.nD) → Buf (Elt Ideal) ((c.tc : Thread Cert.KMIdeal.nD Cert.KMIdeal.τ).loc Cert.KMIdeal.main_v0_5)) (v6 : (c : Dev Cert.KMIdeal.nD) → Buf (Elt Ideal) ((c.tc : Thread Cert.KMIdeal.nD Cert.KMIdeal.τ).loc Cert.KMIdeal.main_v0_6)) (v7 : (c : Dev Cert.KMIdeal.nD) → Buf (Elt Ideal) ((c.tc : Thread Cert.KMIdeal.nD Cert.KMIdeal.τ).loc Cert.KMIdeal.main_v0_7)) (v8 : (c : Dev Cert.KMIdeal.nD) → Buf (Elt Ideal) ((c.tc : Thread Cert.KMIdeal.nD Cert.KMIdeal.τ).loc Cert.KMIdeal.main_v0_8)),
      θ_run (Cert.KMIdeal.defs (F := Ideal)) (onTc (τ := Cert.KMIdeal.τ) (Cert.KMIdeal.main (F := Ideal))) ⟨m, fun _ => 0, g⟩ (fun r => ∀ c : Dev Cert.KMIdeal.nD,
          r.2.mem ((c.tc : Thread Cert.KMIdeal.nD Cert.KMIdeal.τ).loc Cert.KMIdeal.main_v0_0) = v0 c
          ∧ r.2.mem ((c.tc : Thread Cert.KMIdeal.nD Cert.KMIdeal.τ).loc Cert.KMIdeal.main_v0_1) = v1 c
          ∧ r.2.mem ((c.tc : Thread Cert.KMIdeal.nD Cert.KMIdeal.τ).loc Cert.KMIdeal.main_v0_2) = v2 c
          ∧ r.2.mem ((c.tc : Thread Cert.KMIdeal.nD Cert.KMIdeal.τ).loc Cert.KMIdeal.main_v0_3) = v3 c
          ∧ r.2.mem ((c.tc : Thread Cert.KMIdeal.nD Cert.KMIdeal.τ).loc Cert.KMIdeal.main_v0_4) = v4 c
          ∧ r.2.mem ((c.tc : Thread Cert.KMIdeal.nD Cert.KMIdeal.τ).loc Cert.KMIdeal.main_v0_5) = v5 c
          ∧ r.2.mem ((c.tc : Thread Cert.KMIdeal.nD Cert.KMIdeal.τ).loc Cert.KMIdeal.main_v0_6) = v6 c
          ∧ r.2.mem ((c.tc : Thread Cert.KMIdeal.nD Cert.KMIdeal.τ).loc Cert.KMIdeal.main_v0_7) = v7 c
          ∧ r.2.mem ((c.tc : Thread Cert.KMIdeal.nD Cert.KMIdeal.τ).loc Cert.KMIdeal.main_v0_8) = v8 c
          ∧ r.2.mem ((c.tc : Thread Cert.KMIdeal.nD Cert.KMIdeal.τ).loc Cert.KMIdeal.main_arg0) = m ((c.tc : Thread Cert.KMIdeal.nD Cert.KMIdeal.τ).loc Cert.KMIdeal.main_arg0)
          ∧ r.2.mem ((c.tc : Thread Cert.KMIdeal.nD Cert.KMIdeal.τ).loc Cert.KMIdeal.main_arg1) = m ((c.tc : Thread Cert.KMIdeal.nD Cert.KMIdeal.τ).loc Cert.KMIdeal.main_arg1)
          ∧ r.2.mem ((c.tc : Thread Cert.KMIdeal.nD Cert.KMIdeal.τ).loc Cert.KMIdeal.main_arg2) = m ((c.tc : Thread Cert.KMIdeal.nD Cert.KMIdeal.τ).loc Cert.KMIdeal.main_arg2)
          ∧ r.2.mem ((c.tc : Thread Cert.KMIdeal.nD Cert.KMIdeal.τ).loc Cert.KMIdeal.main_arg3) = m ((c.tc : Thread Cert.KMIdeal.nD Cert.KMIdeal.τ).loc Cert.KMIdeal.main_arg3)
          ∧ r.2.mem ((c.tc : Thread Cert.KMIdeal.nD Cert.KMIdeal.τ).loc Cert.KMIdeal.main_arg4) = m ((c.tc : Thread Cert.KMIdeal.nD Cert.KMIdeal.τ).loc Cert.KMIdeal.main_arg4)
          ∧ r.2.mem ((c.tc : Thread Cert.KMIdeal.nD Cert.KMIdeal.τ).loc Cert.KMIdeal.main_arg5) = m ((c.tc : Thread Cert.KMIdeal.nD Cert.KMIdeal.τ).loc Cert.KMIdeal.main_arg5))
      ∧ θ_run (Cert.RMIdeal.defs (F := Ideal)) (onTc (τ := Cert.RMIdeal.τ) (Cert.RMIdeal.main (F := Ideal))) ⟨m', fun _ => 0, g'⟩ (fun r => ∀ c : Dev Cert.RMIdeal.nD,
          r.2.mem ((c.tc : Thread Cert.RMIdeal.nD Cert.RMIdeal.τ).loc Cert.RMIdeal.main_v116_0) = v0 c
          ∧ r.2.mem ((c.tc : Thread Cert.RMIdeal.nD Cert.RMIdeal.τ).loc Cert.RMIdeal.main_v116_1) = v1 c
          ∧ r.2.mem ((c.tc : Thread Cert.RMIdeal.nD Cert.RMIdeal.τ).loc Cert.RMIdeal.main_v116_2) = v2 c
          ∧ r.2.mem ((c.tc : Thread Cert.RMIdeal.nD Cert.RMIdeal.τ).loc Cert.RMIdeal.main_v116_3) = v3 c
          ∧ r.2.mem ((c.tc : Thread Cert.RMIdeal.nD Cert.RMIdeal.τ).loc Cert.RMIdeal.main_v116_4) = v4 c
          ∧ r.2.mem ((c.tc : Thread Cert.RMIdeal.nD Cert.RMIdeal.τ).loc Cert.RMIdeal.main_v104) = v5 c
          ∧ r.2.mem ((c.tc : Thread Cert.RMIdeal.nD Cert.RMIdeal.τ).loc Cert.RMIdeal.main_v110) = v6 c
          ∧ r.2.mem ((c.tc : Thread Cert.RMIdeal.nD Cert.RMIdeal.τ).loc Cert.RMIdeal.main_v111) = v7 c
          ∧ r.2.mem ((c.tc : Thread Cert.RMIdeal.nD Cert.RMIdeal.τ).loc Cert.RMIdeal.main_v114) = v8 c
          ∧ r.2.mem ((c.tc : Thread Cert.RMIdeal.nD Cert.RMIdeal.τ).loc Cert.RMIdeal.main_arg0) = m' ((c.tc : Thread Cert.RMIdeal.nD Cert.RMIdeal.τ).loc Cert.RMIdeal.main_arg0)
          ∧ r.2.mem ((c.tc : Thread Cert.RMIdeal.nD Cert.RMIdeal.τ).loc Cert.RMIdeal.main_arg1) = m' ((c.tc : Thread Cert.RMIdeal.nD Cert.RMIdeal.τ).loc Cert.RMIdeal.main_arg1)
          ∧ r.2.mem ((c.tc : Thread Cert.RMIdeal.nD Cert.RMIdeal.τ).loc Cert.RMIdeal.main_arg2) = m' ((c.tc : Thread Cert.RMIdeal.nD Cert.RMIdeal.τ).loc Cert.RMIdeal.main_arg2)
          ∧ r.2.mem ((c.tc : Thread Cert.RMIdeal.nD Cert.RMIdeal.τ).loc Cert.RMIdeal.main_arg3) = m' ((c.tc : Thread Cert.RMIdeal.nD Cert.RMIdeal.τ).loc Cert.RMIdeal.main_arg3)
          ∧ r.2.mem ((c.tc : Thread Cert.RMIdeal.nD Cert.RMIdeal.τ).loc Cert.RMIdeal.main_arg4) = m' ((c.tc : Thread Cert.RMIdeal.nD Cert.RMIdeal.τ).loc Cert.RMIdeal.main_arg4)
          ∧ r.2.mem ((c.tc : Thread Cert.RMIdeal.nD Cert.RMIdeal.τ).loc Cert.RMIdeal.main_arg5) = m' ((c.tc : Thread Cert.RMIdeal.nD Cert.RMIdeal.τ).loc Cert.RMIdeal.main_arg5))

def Claim : Prop :=
  ∃ (hKW : Cert.KW.Facts) (hKWIdeal : Cert.KWIdeal.Facts) (hRWIdeal : Cert.RWIdeal.Facts) (hKM : Cert.KM.Facts) (hKMIdeal : Cert.KMIdeal.Facts) (hRMIdeal : Cert.RMIdeal.Facts),
    quiescent_KW (hKW := hKW)
    ∧ quiescent_KWIdeal (hKWIdeal := hKWIdeal)
    ∧ quiescent_RWIdeal (hRWIdeal := hRWIdeal)
    ∧ quiescent_KM (hKM := hKM)
    ∧ quiescent_KMIdeal (hKMIdeal := hKMIdeal)
    ∧ quiescent_RMIdeal (hRMIdeal := hRMIdeal)
    ∧ preserves_KW_KWIdeal
    ∧ algebraic_KWIdeal_RWIdeal (hKWIdeal := hKWIdeal) (hRWIdeal := hRWIdeal)
    ∧ preserves_KM_KMIdeal
    ∧ algebraic_KMIdeal_RMIdeal (hKMIdeal := hKMIdeal) (hRMIdeal := hRMIdeal)
-- ==== KW.lean ====
abbrev S1792x3200 : Shape := ⟨2, ![1792, 3200]⟩
abbrev S16 : Shape := ⟨1, ![16]⟩
abbrev S1 : Shape := ⟨1, ![1]⟩
abbrev S256x3200 : Shape := ⟨2, ![256, 3200]⟩
abbrev S8x3200 : Shape := ⟨2, ![8, 3200]⟩
abbrev S32x8x3200 : Shape := ⟨3, ![32, 8, 3200]⟩
abbrev S1x8x3200 : Shape := ⟨3, ![1, 8, 3200]⟩
abbrev S1x1x1 : Shape := ⟨3, ![1, 1, 1]⟩

abbrev nBuf : Space → Nat
  | .hbm => 5
  | .vmem => 5
  | .smem => 3
  | _ => 0

abbrev bufTy : (tb : Table) → Fin (tcTables nBuf tb) → BufTy
  | .hbm, ⟨0, _⟩ => ⟨S1792x3200, .f32⟩
  | .hbm, ⟨1, _⟩ => ⟨S16, .f32⟩
  | .hbm, ⟨2, _⟩ => ⟨S1792x3200, .fp8e4m3⟩
  | .hbm, ⟨3, _⟩ => ⟨S16, .f32⟩
  | .hbm, ⟨4, _⟩ => ⟨S1, .f32⟩
  | .local _ .vmem, ⟨0, _⟩ => ⟨S256x3200, .f32⟩
  | .local _ .vmem, ⟨1, _⟩ => ⟨S256x3200, .f32⟩
  | .local _ .vmem, ⟨2, _⟩ => ⟨S256x3200, .fp8e4m3⟩
  | .local _ .vmem, ⟨3, _⟩ => ⟨S256x3200, .fp8e4m3⟩
  | .local _ .vmem, ⟨4, _⟩ => ⟨S8x3200, .f32⟩
  | .local _ .smem, ⟨0, _⟩ => ⟨S16, .f32⟩
  | .local _ .smem, ⟨1, _⟩ => ⟨S16, .f32⟩
  | .local _ .smem, ⟨2, _⟩ => ⟨S1, .f32⟩
  | _, _ => ⟨S1792x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_stg0_0 : Ref sig .tc := ⟨.smem, 0, rfl⟩
abbrev cc0_stg3_0 : Ref sig .tc := ⟨.smem, 1, rfl⟩
abbrev cc0_stg4_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![7], ![false]⟩

def k0_cond2 (i : grid0.Coords) : BitVec 1 :=
  let arg0 : BitVec 32 := BitVec.ofNat 32 (i 0).val
  let c6_i32 : BitVec 32 := 6#32
  let v110 : BitVec 1 := Scalar.cmpi .eq arg0 c6_i32
  let v111 : BitVec 32 := Scalar.extui v110
  let c0_i32_31 : BitVec 32 := 0#32
  let v112 : BitVec 1 := Scalar.cmpi .ne v111 c0_i32_31
  v112

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3200 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RWIdeal.lean ====
abbrev S1792x3200 : Shape := ⟨2, ![1792, 3200]⟩
abbrev S16 : Shape := ⟨1, ![16]⟩
abbrev S_ : Shape := ⟨0, ![]⟩
abbrev S254 : Shape := ⟨1, ![254]⟩
abbrev S15 : Shape := ⟨1, ![15]⟩
abbrev S1 : Shape := ⟨1, ![1]⟩

abbrev nBuf : Space → Nat
  | .hbm => 80
  | .vmem => 0
  | .smem => 0
  | _ => 0

abbrev bufTy : (tb : Table) → Fin (tcTables nBuf tb) → BufTy
  | .hbm, ⟨0, _⟩ => ⟨S1792x3200, .f32⟩
  | .hbm, ⟨1, _⟩ => ⟨S16, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .i1⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S254, .i32⟩
  | .hbm, ⟨10, _⟩ => ⟨S_, .i32⟩
  | .hbm, ⟨11, _⟩ => ⟨S254, .i32⟩
  | .hbm, ⟨12, _⟩ => ⟨S254, .i32⟩
  | .hbm, ⟨13, _⟩ => ⟨S254, .f32⟩
  | .hbm, ⟨14, _⟩ => ⟨S_, .f32⟩
  | .hbm, ⟨15, _⟩ => ⟨S254, .f32⟩
  | .hbm, ⟨16, _⟩ => ⟨S254, .f32⟩
  | .hbm, ⟨17, _⟩ => ⟨S254, .f32⟩
  | .hbm, ⟨18, _⟩ => ⟨S254, .i1⟩
  | .hbm, ⟨19, _⟩ => ⟨S254, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .f32⟩
  | .hbm, ⟨25, _⟩ => ⟨S_, .i1⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i1⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S1792x3200, .f32⟩
  | .hbm, ⟨63, _⟩ => ⟨S1792x3200, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S1792x3200, .f32⟩
  | .hbm, ⟨68, _⟩ => ⟨S1792x3200, .f32⟩
  | .hbm, ⟨69, _⟩ => ⟨S_, .f32⟩
  | .hbm, ⟨70, _⟩ => ⟨S1792x3200, .f32⟩
  | .hbm, ⟨71, _⟩ => ⟨S1792x3200, .f32⟩
  | .hbm, ⟨72, _⟩ => ⟨S1792x3200, .fp8e4m3⟩
  | .hbm, ⟨73, _⟩ => ⟨S1792x3200, .f32⟩
  | .hbm, ⟨74, _⟩ => ⟨S_, .f32⟩
  | .hbm, ⟨75, _⟩ => ⟨S_, .f32⟩
  | .hbm, ⟨76, _⟩ => ⟨S15, .f32⟩
  | .hbm, ⟨77, _⟩ => ⟨S1, .f32⟩
  | .hbm, ⟨78, _⟩ => ⟨S16, .f32⟩
  | .hbm, ⟨79, _⟩ => ⟨S1, .f32⟩
  | _, _ => ⟨S1792x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_c_6 : Ref sig .tc := ⟨.hbm, 27, rfl⟩
abbrev main_v17 : Ref sig .tc := ⟨.hbm, 28, rfl⟩
abbrev main_c_7 : Ref sig .tc := ⟨.hbm, 29, rfl⟩
abbrev main_call0_v0 : Ref sig .tc := ⟨.hbm, 30, rfl⟩
abbrev main_v18 : Ref sig .tc := ⟨.hbm, 31, rfl⟩
abbrev main_c_8 : Ref sig .tc := ⟨.hbm, 32, rfl⟩
abbrev main_call1_v0 : Ref sig .tc := ⟨.hbm, 33, rfl⟩
abbrev main_v19 : Ref sig .tc := ⟨.hbm, 34, rfl⟩
abbrev main_c_9 : Ref sig .tc := ⟨.hbm, 35, rfl⟩
abbrev main_v20 : Ref sig .tc := ⟨.hbm, 36, rfl⟩
abbrev main_c_10 : Ref sig .tc := ⟨.hbm, 37, rfl⟩
abbrev main_v21 : Ref sig .tc := ⟨.hbm, 38, rfl⟩
abbrev main_v22 : Ref sig .tc := ⟨.hbm, 39, rfl⟩
abbrev main_cst_11 : Ref sig .tc := ⟨.hbm, 40, rfl⟩
abbrev main_v23 : Ref sig .tc := ⟨.hbm, 41, rfl⟩
abbrev main_cst_12 : Ref sig .tc := ⟨.hbm, 42, rfl⟩
abbrev main_call2_v0 : Ref sig .tc := ⟨.hbm, 43, rfl⟩
abbrev main_v24 : Ref sig .tc := ⟨.hbm, 44, rfl⟩
abbrev main_cst_13 : Ref sig .tc := ⟨.hbm, 45, rfl⟩
abbrev main_call3_v0 : Ref sig .tc := ⟨.hbm, 46, rfl⟩
abbrev main_v25 : Ref sig .tc := ⟨.hbm, 47, rfl⟩
abbrev main_v26 : Ref sig .tc := ⟨.hbm, 48, rfl⟩
abbrev main_c_14 : Ref sig .tc := ⟨.hbm, 49, rfl⟩
abbrev main_v27 : Ref sig .tc := ⟨.hbm, 50, rfl⟩
abbrev main_c_15 : Ref sig .tc := ⟨.hbm, 51, rfl⟩
abbrev main_v28 : Ref sig .tc := ⟨.hbm, 52, rfl⟩
abbrev main_v29 : Ref sig .tc := ⟨.hbm, 53, rfl⟩
abbrev main_cst_16 : Ref sig .tc := ⟨.hbm, 54, rfl⟩
abbrev main_v30 : Ref sig .tc := ⟨.hbm, 55, rfl⟩
abbrev main_cst_17 : Ref sig .tc := ⟨.hbm, 56, rfl⟩
abbrev main_call4_v0 : Ref sig .tc := ⟨.hbm, 57, rfl⟩
abbrev main_v31 : Ref sig .tc := ⟨.hbm, 58, rfl⟩
abbrev main_cst_18 : Ref sig .tc := ⟨.hbm, 59, rfl⟩
abbrev main_call5_v0 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_19 : Ref sig .tc := ⟨.hbm, 64, rfl⟩
abbrev main_cst_20 : Ref sig .tc := ⟨.hbm, 65, rfl⟩
abbrev main_call6_v0 : Ref sig .tc := ⟨.hbm, 66, rfl⟩
abbrev main_call6_v1 : Ref sig .tc := ⟨.hbm, 67, rfl⟩
abbrev main_call6_v2 : Ref sig .tc := ⟨.hbm, 68, rfl⟩
abbrev main_call6_v3 : Ref sig .tc := ⟨.hbm, 69, rfl⟩
abbrev main_call6_v4 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_21 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩

abbrev nD : Nat := 1
abbrev τ : Topo := Topo.v7x

variable {F : FTy → Type} [FloatOps F]
-- ==== KM.lean ====
abbrev S6x1024x1792 : Shape := ⟨3, ![6, 1024, 1792]⟩
abbrev S1792x3200 : Shape := ⟨2, ![1792, 3200]⟩
abbrev S6x1024x3200 : Shape := ⟨3, ![6, 1024, 3200]⟩
abbrev S16 : Shape := ⟨1, ![16]⟩
abbrev S768x8x3200 : Shape := ⟨3, ![768, 8, 3200]⟩
abbrev S768x8x1792 : Shape := ⟨3, ![768, 8, 1792]⟩
abbrev S1 : Shape := ⟨1, ![1]⟩
abbrev S1x512x1792 : Shape := ⟨3, ![1, 512, 1792]⟩
abbrev S1x512x3200 : Shape := ⟨3, ![1, 512, 3200]⟩
abbrev S64x8x3200 : Shape := ⟨3, ![64, 8, 3200]⟩
abbrev S64x8x1792 : Shape := ⟨3, ![64, 8, 1792]⟩
abbrev S16x1792 : Shape := ⟨2, ![16, 1792]⟩
abbrev S16x3200 : Shape := ⟨2, ![16, 3200]⟩
abbrev S512x1792 : Shape := ⟨2, ![512, 1792]⟩
abbrev S512x3200 : Shape := ⟨2, ![512, 3200]⟩
abbrev S32x16x1792 : Shape := ⟨3, ![32, 16, 1792]⟩
abbrev S32x16x3200 : Shape := ⟨3, ![32, 16, 3200]⟩
abbrev S1x16x1792 : Shape := ⟨3, ![1, 16, 1792]⟩
abbrev S1x1x1 : Shape := ⟨3, ![1, 1, 1]⟩
abbrev S1x16x3200 : Shape := ⟨3, ![1, 16, 3200]⟩

abbrev nBuf : Space → Nat
  | .hbm => 15
  | .vmem => 16
  | .smem => 7
  | _ => 0

abbrev bufTy : (tb : Table) → Fin (tcTables nBuf tb) → BufTy
  | .hbm, ⟨0, _⟩ => ⟨S6x1024x1792, .bf16⟩
  | .hbm, ⟨1, _⟩ => ⟨S1792x3200, .fp8e4m3⟩
  | .hbm, ⟨2, _⟩ => ⟨S6x1024x3200, .bf16⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S768x8x3200, .bf16⟩
  | .hbm, ⟨7, _⟩ => ⟨S768x8x1792, .bf16⟩
  | .hbm, ⟨8, _⟩ => ⟨S1792x3200, .f32⟩
  | .hbm, ⟨9, _⟩ => ⟨S6x1024x1792, .fp8e4m3⟩
  | .hbm, ⟨10, _⟩ => ⟨S6x1024x3200, .fp8e5m2⟩
  | .hbm, ⟨11, _⟩ => ⟨S16, .f32⟩
  | .hbm, ⟨12, _⟩ => ⟨S16, .f32⟩
  | .hbm, ⟨13, _⟩ => ⟨S1, .f32⟩
  | .hbm, ⟨14, _⟩ => ⟨S1, .f32⟩
  | .local _ .vmem, ⟨0, _⟩ => ⟨S1x512x1792, .bf16⟩
  | .local _ .vmem, ⟨1, _⟩ => ⟨S1x512x1792, .bf16⟩
  | .local _ .vmem, ⟨2, _⟩ => ⟨S1x512x3200, .bf16⟩
  | .local _ .vmem, ⟨3, _⟩ => ⟨S1x512x3200, .bf16⟩
  | .local _ .vmem, ⟨4, _⟩ => ⟨S1792x3200, .fp8e4m3⟩
  | .local _ .vmem, ⟨5, _⟩ => ⟨S64x8x3200, .bf16⟩
  | .local _ .vmem, ⟨6, _⟩ => ⟨S64x8x3200, .bf16⟩
  | .local _ .vmem, ⟨7, _⟩ => ⟨S64x8x1792, .bf16⟩
  | .local _ .vmem, ⟨8, _⟩ => ⟨S64x8x1792, .bf16⟩
  | .local _ .vmem, ⟨9, _⟩ => ⟨S1792x3200, .f32⟩
  | .local _ .vmem, ⟨10, _⟩ => ⟨S1x512x1792, .fp8e4m3⟩
  | .local _ .vmem, ⟨11, _⟩ => ⟨S1x512x1792, .fp8e4m3⟩
  | .local _ .vmem, ⟨12, _⟩ => ⟨S1x512x3200, .fp8e5m2⟩
  | .local _ .vmem, ⟨13, _⟩ => ⟨S1x512x3200, .fp8e5m2⟩
  | .local _ .vmem, ⟨14, _⟩ => ⟨S16x1792, .bf16⟩
  | .local _ .vmem, ⟨15, _⟩ => ⟨S16x3200, .bf16⟩
  | .local _ .smem, ⟨0, _⟩ => ⟨S16, .f32⟩
  | .local _ .smem, ⟨1, _⟩ => ⟨S16, .f32⟩
  | .local _ .smem, ⟨2, _⟩ => ⟨S16, .f32⟩
  | .local _ .smem, ⟨3, _⟩ => ⟨S16, .f32⟩
  | .local _ .smem, ⟨4, _⟩ => ⟨S16, .f32⟩
  | .local _ .smem, ⟨5, _⟩ => ⟨S1, .f32⟩
  | .local _ .smem, ⟨6, _⟩ => ⟨S1, .f32⟩
  | _, _ => ⟨S6x1024x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev main_v0_8 : Ref sig .tc := ⟨.hbm, 14, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg11_0 : Ref sig .tc := ⟨.smem, 3, rfl⟩
abbrev cc0_stg12_0 : Ref sig .tc := ⟨.smem, 4, rfl⟩
abbrev cc0_stg13_0 : Ref sig .tc := ⟨.smem, 5, rfl⟩
abbrev cc0_stg14_0 : Ref sig .tc := ⟨.smem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c11_i32 : BitVec 32 := 11#32
  let v0 : BitVec 1 := Scalar.cmpi .eq arg0 c11_i32
  let v353 : BitVec 32 := Scalar.extui v0
  let c0_i32_176 : BitVec 32 := 0#32
  let v354 : BitVec 1 := Scalar.cmpi .ne v353 c0_i32_176
  v354

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x3200 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1792x3200 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x8x3200 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x8x1792 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1792x3200 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x512x1792 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x3200 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .smem S16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .smem S16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .smem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .smem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== RMIdeal.lean ====
abbrev S6x1024x1792 : Shape := ⟨3, ![6, 1024, 1792]⟩
abbrev S1792x3200 : Shape := ⟨2, ![1792, 3200]⟩
abbrev S6x1024x3200 : Shape := ⟨3, ![6, 1024, 3200]⟩
abbrev S16 : Shape := ⟨1, ![16]⟩
abbrev S_ : Shape := ⟨0, ![]⟩
abbrev S254 : Shape := ⟨1, ![254]⟩
abbrev S15 : Shape := ⟨1, ![15]⟩
abbrev S1 : Shape := ⟨1, ![1]⟩
abbrev S768x8x3200 : Shape := ⟨3, ![768, 8, 3200]⟩
abbrev S768x8x1792 : Shape := ⟨3, ![768, 8, 1792]⟩
abbrev S6144x1792 : Shape := ⟨2, ![6144, 1792]⟩
abbrev S6144x3200 : Shape := ⟨2, ![6144, 3200]⟩

abbrev nBuf : Space → Nat
  | .hbm => 210
  | .vmem => 8
  | .smem => 5
  | _ => 0

abbrev hbmTy0_0 (i : Nat) : BufTy := match i % 128 with
  | 0 => ⟨S6x1024x1792, .bf16⟩
  | 1 => ⟨S1792x3200, .fp8e4m3⟩
  | 2 => ⟨S6x1024x3200, .bf16⟩
  | 3 => ⟨S16, .f32⟩
  | 4 => ⟨S16, .f32⟩
  | 5 => ⟨S16, .f32⟩
  | 6 => ⟨S_, .f32⟩
  | 7 => ⟨S_, .f32⟩
  | 8 => ⟨S_, .f32⟩
  | 9 => ⟨S_, .i1⟩
  | 10 => ⟨S_, .f32⟩
  | 11 => ⟨S_, .f32⟩
  | 12 => ⟨S_, .f32⟩
  | 13 => ⟨S254, .i32⟩
  | 14 => ⟨S_, .i32⟩
  | 15 => ⟨S254, .i32⟩
  | 16 => ⟨S254, .i32⟩
  | 17 => ⟨S254, .f32⟩
  | 18 => ⟨S_, .f32⟩
  | 19 => ⟨S254, .f32⟩
  | 20 => ⟨S254, .f32⟩
  | 21 => ⟨S254, .f32⟩
  | 22 => ⟨S254, .i1⟩
  | 23 => ⟨S254, .i32⟩
  | 24 => ⟨S_, .i32⟩
  | 25 => ⟨S_, .i32⟩
  | 26 => ⟨S_, .i32⟩
  | 27 => ⟨S_, .i1⟩
  | 28 => ⟨S_, .f32⟩
  | 29 => ⟨S_, .i1⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i1⟩
  | 41 => ⟨S_, .i32⟩
  | 42 => ⟨S_, .i1⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .i32⟩
  | 53 => ⟨S_, .i32⟩
  | 54 => ⟨S_, .i1⟩
  | 55 => ⟨S_, .i32⟩
  | 56 => ⟨S_, .i1⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .i1⟩
  | 70 => ⟨S_, .f32⟩
  | 71 => ⟨S_, .f32⟩
  | 72 => ⟨S_, .f32⟩
  | 73 => ⟨S254, .i32⟩
  | 74 => ⟨S_, .i32⟩
  | 75 => ⟨S254, .i32⟩
  | 76 => ⟨S254, .i32⟩
  | 77 => ⟨S254, .f32⟩
  | 78 => ⟨S_, .f32⟩
  | 79 => ⟨S254, .f32⟩
  | 80 => ⟨S254, .f32⟩
  | 81 => ⟨S254, .f32⟩
  | 82 => ⟨S254, .i1⟩
  | 83 => ⟨S254, .i32⟩
  | 84 => ⟨S_, .i32⟩
  | 85 => ⟨S_, .i32⟩
  | 86 => ⟨S_, .i32⟩
  | 87 => ⟨S_, .i1⟩
  | 88 => ⟨S_, .f32⟩
  | 89 => ⟨S_, .i1⟩
  | 90 => ⟨S_, .i1⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i1⟩
  | 101 => ⟨S_, .i32⟩
  | 102 => ⟨S_, .i1⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .i32⟩
  | 113 => ⟨S_, .i32⟩
  | 114 => ⟨S_, .i1⟩
  | 115 => ⟨S_, .i32⟩
  | 116 => ⟨S_, .i1⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S6x1024x1792, .bf16⟩

abbrev hbmTy0_1 (i : Nat) : BufTy := match i % 128 with
  | 0 => ⟨S_, .f32⟩
  | 1 => ⟨S_, .i1⟩
  | 2 => ⟨S_, .f32⟩
  | 3 => ⟨S_, .f32⟩
  | 4 => ⟨S_, .f32⟩
  | 5 => ⟨S254, .i32⟩
  | 6 => ⟨S_, .i32⟩
  | 7 => ⟨S254, .i32⟩
  | 8 => ⟨S254, .i32⟩
  | 9 => ⟨S254, .f32⟩
  | 10 => ⟨S_, .f32⟩
  | 11 => ⟨S254, .f32⟩
  | 12 => ⟨S254, .f32⟩
  | 13 => ⟨S254, .f32⟩
  | 14 => ⟨S254, .i1⟩
  | 15 => ⟨S254, .i32⟩
  | 16 => ⟨S_, .i32⟩
  | 17 => ⟨S_, .i32⟩
  | 18 => ⟨S_, .i32⟩
  | 19 => ⟨S_, .i1⟩
  | 20 => ⟨S_, .f32⟩
  | 21 => ⟨S_, .i1⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i1⟩
  | 33 => ⟨S_, .i32⟩
  | 34 => ⟨S_, .i1⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .i32⟩
  | 45 => ⟨S_, .i32⟩
  | 46 => ⟨S_, .i1⟩
  | 47 => ⟨S_, .i32⟩
  | 48 => ⟨S_, .i1⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S6x1024x1792, .f32⟩
  | 59 => ⟨S6x1024x1792, .f32⟩
  | 60 => ⟨S_, .f32⟩
  | 61 => ⟨S_, .f32⟩
  | 62 => ⟨S15, .f32⟩
  | 63 => ⟨S1, .f32⟩
  | 64 => ⟨S16, .f32⟩
  | 65 => ⟨S6x1024x3200, .f32⟩
  | 66 => ⟨S6x1024x3200, .f32⟩
  | 67 => ⟨S_, .f32⟩
  | 68 => ⟨S_, .f32⟩
  | 69 => ⟨S15, .f32⟩
  | 70 => ⟨S1, .f32⟩
  | 71 => ⟨S16, .f32⟩
  | 72 => ⟨S1, .f32⟩
  | 73 => ⟨S1, .f32⟩
  | 74 => ⟨S1, .f32⟩
  | 75 => ⟨S1, .f32⟩
  | 76 => ⟨S1, .f32⟩
  | 77 => ⟨S768x8x3200, .bf16⟩
  | 78 => ⟨S768x8x1792, .bf16⟩
  | 79 => ⟨S1792x3200, .f32⟩
  | 80 => ⟨S6x1024x1792, .fp8e4m3⟩
  | 81 => ⟨S6x1024x3200, .fp8e5m2⟩
  | _ => ⟨S6x1024x1792, .bf16⟩

abbrev hbmTy (i : Nat) : BufTy := match i / 128 with
  | 0 => hbmTy0_0 i
  | 1 => hbmTy0_1 i
  | _ => ⟨S6x1024x1792, .bf16⟩

abbrev bufTy : (tb : Table) → Fin (tcTables nBuf tb) → BufTy
  | .hbm, ⟨i, _⟩ => hbmTy i
  | .local _ .vmem, ⟨0, _⟩ => ⟨S6x1024x1792, .bf16⟩
  | .local _ .vmem, ⟨1, _⟩ => ⟨S1792x3200, .fp8e4m3⟩
  | .local _ .vmem, ⟨2, _⟩ => ⟨S6x1024x3200, .bf16⟩
  | .local _ .vmem, ⟨3, _⟩ => ⟨S768x8x3200, .bf16⟩
  | .local _ .vmem, ⟨4, _⟩ => ⟨S768x8x1792, .bf16⟩
  | .local _ .vmem, ⟨5, _⟩ => ⟨S1792x3200, .f32⟩
  | .local _ .vmem, ⟨6, _⟩ => ⟨S6x1024x1792, .fp8e4m3⟩
  | .local _ .vmem, ⟨7, _⟩ => ⟨S6x1024x3200, .fp8e5m2⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | _, _ => ⟨S6x1024x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_c_6 : Ref sig .tc := ⟨.hbm, 31, rfl⟩
abbrev main_v17 : Ref sig .tc := ⟨.hbm, 32, rfl⟩
abbrev main_c_7 : Ref sig .tc := ⟨.hbm, 33, rfl⟩
abbrev main_call0_v0 : Ref sig .tc := ⟨.hbm, 34, rfl⟩
abbrev main_v18 : Ref sig .tc := ⟨.hbm, 35, rfl⟩
abbrev main_c_8 : Ref sig .tc := ⟨.hbm, 36, rfl⟩
abbrev main_call1_v0 : Ref sig .tc := ⟨.hbm, 37, rfl⟩
abbrev main_v19 : Ref sig .tc := ⟨.hbm, 38, rfl⟩
abbrev main_c_9 : Ref sig .tc := ⟨.hbm, 39, rfl⟩
abbrev main_v20 : Ref sig .tc := ⟨.hbm, 40, rfl⟩
abbrev main_c_10 : Ref sig .tc := ⟨.hbm, 41, rfl⟩
abbrev main_v21 : Ref sig .tc := ⟨.hbm, 42, rfl⟩
abbrev main_v22 : Ref sig .tc := ⟨.hbm, 43, rfl⟩
abbrev main_cst_11 : Ref sig .tc := ⟨.hbm, 44, rfl⟩
abbrev main_v23 : Ref sig .tc := ⟨.hbm, 45, rfl⟩
abbrev main_cst_12 : Ref sig .tc := ⟨.hbm, 46, rfl⟩
abbrev main_call2_v0 : Ref sig .tc := ⟨.hbm, 47, rfl⟩
abbrev main_v24 : Ref sig .tc := ⟨.hbm, 48, rfl⟩
abbrev main_cst_13 : Ref sig .tc := ⟨.hbm, 49, rfl⟩
abbrev main_call3_v0 : Ref sig .tc := ⟨.hbm, 50, rfl⟩
abbrev main_v25 : Ref sig .tc := ⟨.hbm, 51, rfl⟩
abbrev main_v26 : Ref sig .tc := ⟨.hbm, 52, rfl⟩
abbrev main_c_14 : Ref sig .tc := ⟨.hbm, 53, rfl⟩
abbrev main_v27 : Ref sig .tc := ⟨.hbm, 54, rfl⟩
abbrev main_c_15 : Ref sig .tc := ⟨.hbm, 55, rfl⟩
abbrev main_v28 : Ref sig .tc := ⟨.hbm, 56, rfl⟩
abbrev main_v29 : Ref sig .tc := ⟨.hbm, 57, rfl⟩
abbrev main_cst_16 : Ref sig .tc := ⟨.hbm, 58, rfl⟩
abbrev main_v30 : Ref sig .tc := ⟨.hbm, 59, rfl⟩
abbrev main_cst_17 : Ref sig .tc := ⟨.hbm, 60, rfl⟩
abbrev main_call4_v0 : Ref sig .tc := ⟨.hbm, 61, rfl⟩
abbrev main_v31 : Ref sig .tc := ⟨.hbm, 62, rfl⟩
abbrev main_cst_18 : Ref sig .tc := ⟨.hbm, 63, rfl⟩
abbrev main_call5_v0 : Ref sig .tc := ⟨.hbm, 64, rfl⟩
abbrev main_v32 : Ref sig .tc := ⟨.hbm, 65, rfl⟩
abbrev main_cst_19 : Ref sig .tc := ⟨.hbm, 66, rfl⟩
abbrev main_v33 : Ref sig .tc := ⟨.hbm, 67, rfl⟩
abbrev main_cst_20 : Ref sig .tc := ⟨.hbm, 68, rfl⟩
abbrev main_v34 : Ref sig .tc := ⟨.hbm, 69, rfl⟩
abbrev main_cst_21 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_c_22 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_23 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_c_24 : Ref sig .tc := ⟨.hbm, 84, rfl⟩
abbrev main_v46 : Ref sig .tc := ⟨.hbm, 85, rfl⟩
abbrev main_c_25 : Ref sig .tc := ⟨.hbm, 86, rfl⟩
abbrev main_v47 : Ref sig .tc := ⟨.hbm, 87, rfl⟩
abbrev main_cst_26 : Ref sig .tc := ⟨.hbm, 88, rfl⟩
abbrev main_v48 : Ref sig .tc := ⟨.hbm, 89, rfl⟩
abbrev main_v49 : Ref sig .tc := ⟨.hbm, 90, rfl⟩
abbrev main_c_27 : Ref sig .tc := ⟨.hbm, 91, rfl⟩
abbrev main_v50 : Ref sig .tc := ⟨.hbm, 92, rfl⟩
abbrev main_c_28 : Ref sig .tc := ⟨.hbm, 93, rfl⟩
abbrev main_call6_v0 : Ref sig .tc := ⟨.hbm, 94, rfl⟩
abbrev main_v51 : Ref sig .tc := ⟨.hbm, 95, rfl⟩
abbrev main_c_29 : Ref sig .tc := ⟨.hbm, 96, rfl⟩
abbrev main_call7_v0 : Ref sig .tc := ⟨.hbm, 97, rfl⟩
abbrev main_v52 : Ref sig .tc := ⟨.hbm, 98, rfl⟩
abbrev main_c_30 : Ref sig .tc := ⟨.hbm, 99, rfl⟩
abbrev main_v53 : Ref sig .tc := ⟨.hbm, 100, rfl⟩
abbrev main_c_31 : Ref sig .tc := ⟨.hbm, 101, rfl⟩
abbrev main_v54 : Ref sig .tc := ⟨.hbm, 102, rfl⟩
abbrev main_v55 : Ref sig .tc := ⟨.hbm, 103, rfl⟩
abbrev main_cst_32 : Ref sig .tc := ⟨.hbm, 104, rfl⟩
abbrev main_v56 : Ref sig .tc := ⟨.hbm, 105, rfl⟩
abbrev main_cst_33 : Ref sig .tc := ⟨.hbm, 106, rfl⟩
abbrev main_call8_v0 : Ref sig .tc := ⟨.hbm, 107, rfl⟩
abbrev main_v57 : Ref sig .tc := ⟨.hbm, 108, rfl⟩
abbrev main_cst_34 : Ref sig .tc := ⟨.hbm, 109, rfl⟩
abbrev main_call9_v0 : Ref sig .tc := ⟨.hbm, 110, rfl⟩
abbrev main_v58 : Ref sig .tc := ⟨.hbm, 111, rfl⟩
abbrev main_v59 : Ref sig .tc := ⟨.hbm, 112, rfl⟩
abbrev main_c_35 : Ref sig .tc := ⟨.hbm, 113, rfl⟩
abbrev main_v60 : Ref sig .tc := ⟨.hbm, 114, rfl⟩
abbrev main_c_36 : Ref sig .tc := ⟨.hbm, 115, rfl⟩
abbrev main_v61 : Ref sig .tc := ⟨.hbm, 116, rfl⟩
abbrev main_v62 : Ref sig .tc := ⟨.hbm, 117, rfl⟩
abbrev main_cst_37 : Ref sig .tc := ⟨.hbm, 118, rfl⟩
abbrev main_v63 : Ref sig .tc := ⟨.hbm, 119, rfl⟩
abbrev main_cst_38 : Ref sig .tc := ⟨.hbm, 120, rfl⟩
abbrev main_call10_v0 : Ref sig .tc := ⟨.hbm, 121, rfl⟩
abbrev main_v64 : Ref sig .tc := ⟨.hbm, 122, rfl⟩
abbrev main_cst_39 : Ref sig .tc := ⟨.hbm, 123, rfl⟩
abbrev main_call11_v0 : Ref sig .tc := ⟨.hbm, 124, rfl⟩
abbrev main_v65 : Ref sig .tc := ⟨.hbm, 125, rfl⟩
abbrev main_cst_40 : Ref sig .tc := ⟨.hbm, 126, rfl⟩
abbrev main_v66 : Ref sig .tc := ⟨.hbm, 127, rfl⟩
abbrev main_cst_41 : Ref sig .tc := ⟨.hbm, 128, rfl⟩
abbrev main_v67 : Ref sig .tc := ⟨.hbm, 129, rfl⟩
abbrev main_cst_42 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_c_43 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_cst_44 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_c_45 : Ref sig .tc := ⟨.hbm, 144, rfl⟩
abbrev main_v79 : Ref sig .tc := ⟨.hbm, 145, rfl⟩
abbrev main_c_46 : Ref sig .tc := ⟨.hbm, 146, rfl⟩
abbrev main_v80 : Ref sig .tc := ⟨.hbm, 147, rfl⟩
abbrev main_cst_47 : Ref sig .tc := ⟨.hbm, 148, rfl⟩
abbrev main_v81 : Ref sig .tc := ⟨.hbm, 149, rfl⟩
abbrev main_v82 : Ref sig .tc := ⟨.hbm, 150, rfl⟩
abbrev main_c_48 : Ref sig .tc := ⟨.hbm, 151, rfl⟩
abbrev main_v83 : Ref sig .tc := ⟨.hbm, 152, rfl⟩
abbrev main_c_49 : Ref sig .tc := ⟨.hbm, 153, rfl⟩
abbrev main_call12_v0 : Ref sig .tc := ⟨.hbm, 154, rfl⟩
abbrev main_v84 : Ref sig .tc := ⟨.hbm, 155, rfl⟩
abbrev main_c_50 : Ref sig .tc := ⟨.hbm, 156, rfl⟩
abbrev main_call13_v0 : Ref sig .tc := ⟨.hbm, 157, rfl⟩
abbrev main_v85 : Ref sig .tc := ⟨.hbm, 158, rfl⟩
abbrev main_c_51 : Ref sig .tc := ⟨.hbm, 159, rfl⟩
abbrev main_v86 : Ref sig .tc := ⟨.hbm, 160, rfl⟩
abbrev main_c_52 : Ref sig .tc := ⟨.hbm, 161, rfl⟩
abbrev main_v87 : Ref sig .tc := ⟨.hbm, 162, rfl⟩
abbrev main_v88 : Ref sig .tc := ⟨.hbm, 163, rfl⟩
abbrev main_cst_53 : Ref sig .tc := ⟨.hbm, 164, rfl⟩
abbrev main_v89 : Ref sig .tc := ⟨.hbm, 165, rfl⟩
abbrev main_cst_54 : Ref sig .tc := ⟨.hbm, 166, rfl⟩
abbrev main_call14_v0 : Ref sig .tc := ⟨.hbm, 167, rfl⟩
abbrev main_v90 : Ref sig .tc := ⟨.hbm, 168, rfl⟩
abbrev main_cst_55 : Ref sig .tc := ⟨.hbm, 169, rfl⟩
abbrev main_call15_v0 : Ref sig .tc := ⟨.hbm, 170, rfl⟩
abbrev main_v91 : Ref sig .tc := ⟨.hbm, 171, rfl⟩
abbrev main_v92 : Ref sig .tc := ⟨.hbm, 172, rfl⟩
abbrev main_c_56 : Ref sig .tc := ⟨.hbm, 173, rfl⟩
abbrev main_v93 : Ref sig .tc := ⟨.hbm, 174, rfl⟩
abbrev main_c_57 : Ref sig .tc := ⟨.hbm, 175, rfl⟩
abbrev main_v94 : Ref sig .tc := ⟨.hbm, 176, rfl⟩
abbrev main_v95 : Ref sig .tc := ⟨.hbm, 177, rfl⟩
abbrev main_cst_58 : Ref sig .tc := ⟨.hbm, 178, rfl⟩
abbrev main_v96 : Ref sig .tc := ⟨.hbm, 179, rfl⟩
abbrev main_cst_59 : Ref sig .tc := ⟨.hbm, 180, rfl⟩
abbrev main_call16_v0 : Ref sig .tc := ⟨.hbm, 181, rfl⟩
abbrev main_v97 : Ref sig .tc := ⟨.hbm, 182, rfl⟩
abbrev main_cst_60 : Ref sig .tc := ⟨.hbm, 183, rfl⟩
abbrev main_call17_v0 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_cst_61 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_cst_62 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116_0 : Ref sig .tc := ⟨.hbm, 205, rfl⟩
abbrev main_v116_1 : Ref sig .tc := ⟨.hbm, 206, rfl⟩
abbrev main_v116_2 : Ref sig .tc := ⟨.hbm, 207, rfl⟩
abbrev main_v116_3 : Ref sig .tc := ⟨.hbm, 208, rfl⟩
abbrev main_v116_4 : Ref sig .tc := ⟨.hbm, 209, rfl⟩
abbrev cc0_stg5_0 : Ref sig .tc := ⟨.vmem, 0, rfl⟩
abbrev cc0_stg6_0 : Ref sig .tc := ⟨.vmem, 1, rfl⟩
abbrev cc0_stg7_0 : Ref sig .tc := ⟨.vmem, 2, rfl⟩
abbrev cc0_stg8_0 : Ref sig .tc := ⟨.vmem, 3, rfl⟩
abbrev cc0_stg9_0 : Ref sig .tc := ⟨.vmem, 4, rfl⟩
abbrev cc0_stg10_0 : Ref sig .tc := ⟨.vmem, 5, rfl⟩
abbrev cc0_stg11_0 : Ref sig .tc := ⟨.vmem, 6, rfl⟩
abbrev cc0_stg12_0 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x1024x1792 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1792x3200 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x1024x3200 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S768x8x3200 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S768x8x1792 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1792x3200 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x1024x1792 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x1024x3200 .fp8e5m2 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Scale.lean ====
/-
  The power-of-two scale of a delayed-scaling quantiser, over the extended reals, in the two spellings the programs
  print: the kernel's (the exponent field found by bisection over the powers of two, the power rebuilt from the field)
  and the reference's (the exponent counted over the powers of two not above the value, the power taken by `power`).
  `rscale_eq` and `rinv_eq` say that the two agree at every extended real.
-/
module

public import Idealize.ShloMosaic.Lib.Pipeline.ValueKit
public import Idealize.ShloMosaic.Lib.Routing.OpsSearch

@[expose] public section

set_option maxRecDepth 16384

noncomputable section

namespace Cert.Scale

open Idealize.ShloMosaic

/-! ## Powers of two by their exponent field -/

/-- The f32 whose exponent field is `k` and whose fraction is zero: `2^(k-127)`, and infinity at 255. -/
def bnd (k : ℕ) : EReal := if 255 ≤ k then ⊤ else (((2 : ℝ) ^ ((k : ℤ) - 127) : ℝ) : EReal)

theorem bnd_top {k : ℕ} (h : 255 ≤ k) : bnd k = ⊤ := if_pos h

theorem bnd_lt {k : ℕ} (h : k < 255) : bnd k = (((2 : ℝ) ^ ((k : ℤ) - 127) : ℝ) : EReal) := if_neg (by omega)

theorem bnd_mono {i k : ℕ} (h : i ≤ k) : bnd i ≤ bnd k := by
  by_cases hk : 255 ≤ k
  · rw [bnd_top hk]; exact le_top
  · rw [bnd_lt (by omega), bnd_lt (by omega)]
    refine EReal.coe_le_coe_iff.2 (zpow_le_zpow_right₀ (by norm_num) (by omega))

/-- The word of a field shifted into place: its sign, exponent and fraction. -/
theorem word_fields : ∀ f : Fin 256, ((BitVec.ofNat 32 f.val <<< 23).extractLsb' 23 8).toNat = f.val
    ∧ ((BitVec.ofNat 32 f.val <<< 23).extractLsb' 0 23).toNat = 0
    ∧ ((BitVec.ofNat 32 f.val <<< 23).extractLsb' 31 1 == 1#1) = false := by decide +kernel

/-- What that word denotes. -/
theorem ofBits_word {f : ℕ} (h1 : 1 ≤ f) (h2 : f ≤ 255) : Ideal.ofBits .f32 (BitVec.ofNat 32 f <<< 23) = bnd f := by
  obtain ⟨he, hf, hs⟩ := word_fields ⟨f, by omega⟩
  dsimp only at he hf hs
  show Ideal.ieee 8 23 (BitVec.ofNat 32 f <<< 23) = _
  unfold Ideal.ieee
  dsimp only
  rw [he, hf, hs]
  by_cases h : f = 255
  · subst h
    rw [bnd_top le_rfl]
    norm_num
  · rw [bnd_lt (by omega), if_neg (by omega), if_neg (by omega)]
    refine congrArg _ ?_
    have h2 : (2 : ℝ) ≠ 0 := by norm_num
    have e : ((f : ℤ) - (2 ^ (8 - 1) - 1) - (23 : ℕ)) = ((f : ℤ) - 127) - 23 := by norm_num
    rw [e, zpow_sub₀ h2]
    norm_num
    exact mul_div_cancel₀ _ (by norm_num)

theorem ofBits_zero : Ideal.ofBits .f32 (0x00000000#32) = 0 := by
  show Ideal.ieee 8 23 (0x00000000#32) = 0
  unfold Ideal.ieee
  norm_num

theorem ofBits_inf : Ideal.ofBits .f32 (0x7F800000#32) = ⊤ := by
  rw [show (0x7F800000#32) = BitVec.ofNat 32 255 <<< 23 by decide, ofBits_word (by omega) (by omega), bnd_top le_rfl]

theorem ofBits_neg_inf : Ideal.ofBits .f32 (0xFF800000#32) = ⊥ := by
  show Ideal.ieee 8 23 (0xFF800000#32) = ⊥
  unfold Ideal.ieee
  simp

theorem ofBits_two : Ideal.ofBits .f32 (0x40000000#32) = ((2 : ℝ) : EReal) := by
  rw [show (0x40000000#32) = BitVec.ofNat 32 128 <<< 23 by decide, ofBits_word (by omega) (by omega), bnd_lt (by omega)]
  norm_num

theorem select_true {α : Type} (x y : α) : Scalar.select (BitVec.ofBool true) x y = x := rfl
theorem select_false {α : Type} (x y : α) : Scalar.select (BitVec.ofBool false) x y = y := rfl
theorem select_zero {α : Type} (x y : α) : Scalar.select 0#1 x y = y := rfl
theorem select_one {α : Type} (x y : α) : Scalar.select 1#1 x y = x := rfl

/-! ## The kernel's spelling -/

/-- One step of the bisection: the trial field `w + k` is kept if its power of two is not above `a`. -/
abbrev kstep (a : EReal) (w k : BitVec 32) : BitVec 32 :=
  Scalar.select (Scalar.cmpf (F := Ideal) (φ := .f32) .oge a (Scalar.ofBits (F := Ideal) .f32 (Scalar.shli (Scalar.addi w k) 23#32))) (Scalar.addi w k) w

/-- The exponent field by bisection. -/
def kfield (a : EReal) : BitVec 32 :=
  kstep a (kstep a (kstep a (kstep a (kstep a (kstep a (kstep a (kstep a 0#32 128#32) 64#32) 32#32) 16#32) 8#32) 4#32) 2#32) 1#32

/-- `frexp`'s exponent of a nonnegative `a`. -/
def kfrexp (a : EReal) : BitVec 32 :=
  Scalar.select (Scalar.ori (Scalar.cmpi .eq (kfield a) 0#32) (Scalar.cmpi .eq (kfield a) 255#32)) 0#32 (Scalar.subi (kfield a) 126#32)

/-- The exponent of the scale of a history whose maximum is `h`, with `1/fmax` the f32 of pattern `c`. -/
def kexp (h : EReal) (c : BitVec 32) : BitVec 32 :=
  Scalar.select (Scalar.cmpf (F := Ideal) (φ := .f32) .oeq h (Scalar.ofBits (F := Ideal) .f32 0x00000000#32)) 0#32
    (kfrexp (Scalar.absf (F := Ideal) (φ := .f32) (Scalar.mulf (F := Ideal) (φ := .f32) h (Scalar.ofBits (F := Ideal) .f32 c))))

/-- The biased exponent of `2^e`, `e` clipped to a range that changes no result. -/
def kbias (e : BitVec 32) : BitVec 32 := Scalar.addi 127#32 (Scalar.minsi 512#32 (Scalar.maxsi 4294966784#32 e))

/-- `2^e`, underflow flushed to zero and overflow to infinity. -/
def kpow2 (e : BitVec 32) : EReal :=
  Scalar.select (Scalar.cmpi .sle (kbias e) 0#32) (Scalar.ofBits (F := Ideal) .f32 0x00000000#32)
    (Scalar.select (Scalar.cmpi .sge (kbias e) 255#32) (Scalar.ofBits (F := Ideal) .f32 0x7F800000#32)
      (Scalar.ofBits (F := Ideal) .f32 (Scalar.shli (kbias e) 23#32)))

/-! ## The bisection finds the greatest field -/

theorem kstep_eq (a : EReal) (w n : ℕ) (h1 : 1 ≤ n) (h : w + n ≤ 255) :
    kstep a (BitVec.ofNat 32 w) (BitVec.ofNat 32 n) = BitVec.ofNat 32 (if bnd (w + n) ≤ a then w + n else w) := by
  have e : Scalar.addi (BitVec.ofNat 32 w) (BitVec.ofNat 32 n) = BitVec.ofNat 32 (w + n) := (BitVec.ofNat_add ..).symm
  unfold kstep
  rw [e]
  have hs : Scalar.shli (BitVec.ofNat 32 (w + n)) 23#32 = BitVec.ofNat 32 (w + n) <<< 23 := rfl
  rw [hs]
  show Scalar.select (BitVec.ofBool (decide (Ideal.ofBits .f32 (BitVec.ofNat 32 (w + n) <<< 23) ≤ a))) _ _ = _
  rw [ofBits_word (by omega) h]
  by_cases hb : bnd (w + n) ≤ a
  · rw [if_pos hb, decide_eq_true hb]; rfl
  · rw [if_neg hb, decide_eq_false hb]; rfl

/-- Before a step of width `n`: the fields up to `w` are not above `a`, those from `w + 2n` on are. -/
structure Inv (a : EReal) (w n : ℕ) : Prop where
  bound : w + n ≤ 256
  below : ∀ k, 1 ≤ k → k ≤ w → bnd k ≤ a
  above : ∀ k, w + n ≤ k → k ≤ 255 → ¬ bnd k ≤ a

theorem step {a : EReal} {w : ℕ} {u : BitVec 32} (n : ℕ) (h1 : 1 ≤ n) (hu : u = BitVec.ofNat 32 w) (h : Inv a w (n + n)) :
    ∃ w', kstep a u (BitVec.ofNat 32 n) = BitVec.ofNat 32 w' ∧ Inv a w' n := by
  have hb := h.bound
  refine ⟨_, by rw [hu]; exact kstep_eq a w n h1 (by omega), ?_⟩
  by_cases hk : bnd (w + n) ≤ a
  · rw [if_pos hk]
    exact ⟨by omega, fun k _ hle => (bnd_mono hle).trans hk, fun k hle h255 => h.above k (by omega) h255⟩
  · rw [if_neg hk]
    exact ⟨by omega, h.below, fun k hle _ hc => hk ((bnd_mono hle).trans hc)⟩

/-- The field is the greatest whose power of two is not above `a`. -/
theorem kfield_spec (a : EReal) :
    ∃ f : ℕ, f ≤ 255 ∧ kfield a = BitVec.ofNat 32 f ∧ ∀ k, 1 ≤ k → k ≤ 255 → (bnd k ≤ a ↔ k ≤ f) := by
  have h0 : Inv a 0 (128 + 128) := ⟨by omega, fun k _ _ => by omega, fun k _ _ => by omega⟩
  obtain ⟨w1, e1, h1⟩ := step 128 (by omega) (u := 0#32) rfl h0
  obtain ⟨w2, e2, h2⟩ := step 64 (by omega) e1 h1
  obtain ⟨w3, e3, h3⟩ := step 32 (by omega) e2 h2
  obtain ⟨w4, e4, h4⟩ := step 16 (by omega) e3 h3
  obtain ⟨w5, e5, h5⟩ := step 8 (by omega) e4 h4
  obtain ⟨w6, e6, h6⟩ := step 4 (by omega) e5 h5
  obtain ⟨w7, e7, h7⟩ := step 2 (by omega) e6 h6
  obtain ⟨w8, e8, h8⟩ := step 1 (by omega) e7 h7
  refine ⟨w8, by have := h8.bound; omega, e8, fun k hk h255 => ⟨fun hb => ?_, fun hle => h8.below k hk hle⟩⟩
  by_contra hc
  exact h8.above k (by omega) h255 hb

/-! ## The reference's spelling, as it prints -/

section Ref

variable (hb : (⟨0, ![]⟩ : Shape).BroadcastsInDim ⟨1, ![254]⟩ ![]) (hw : 1 < 32)
  (hr : (⟨1, ![254]⟩ : Shape).ReducesTo [0] ⟨0, ![]⟩) (hu : 0 < (⟨0, ![]⟩ : Shape).numel)

/-- The number of powers of two from `2^-126` to `2^127` that are not above `a`. -/
abbrev rcount (a : FVec Ideal ⟨0, ![]⟩ .f32) : IVec ⟨0, ![]⟩ 32 :=
  Host.reduce IntOp.addi (extui 32 (cmpf .ole (Host.powf (broadcastInDim ⟨1, ![254]⟩ ![] hb (constant ⟨0, ![]⟩ .f32 0x40000000#32))
    (sitofp .f32 (addi (broadcastInDim ⟨1, ![254]⟩ ![] hb (constantI ⟨0, ![]⟩ 32 4294967170#32)) (iotaInDim ⟨1, ![254]⟩ 32 0))))
    (broadcastInDim ⟨1, ![254]⟩ ![] hb a)) hw) (constantI ⟨0, ![]⟩ 32 0#32) hr hu

/-- `frexp`'s exponent of a nonnegative `a`. -/
abbrev rfrexp (a : FVec Ideal ⟨0, ![]⟩ .f32) : IVec ⟨0, ![]⟩ 32 :=
  select (ori (cmpi .eq (rcount hb hw hr hu a) (constantI ⟨0, ![]⟩ 32 0#32)) (cmpf .oeq a (constant ⟨0, ![]⟩ .f32 0x7F800000#32)))
    (id (constantI ⟨0, ![]⟩ 32 0#32)) (subi (rcount hb hw hr hu a) (constantI ⟨0, ![]⟩ 32 126#32))

/-- The exponent of the scale of a history whose maximum is `h`, with `1/fmax` the f32 of pattern `c`. -/
abbrev rexp (h : FVec Ideal ⟨0, ![]⟩ .f32) (c : BitVec 32) : IVec ⟨0, ![]⟩ 32 :=
  select (cmpf .oeq h (constant ⟨0, ![]⟩ .f32 0x00000000#32)) (id (constantI ⟨0, ![]⟩ 32 0#32))
    (rfrexp hb hw hr hu (Host.absf (mulf h (constant ⟨0, ![]⟩ .f32 c))))

/-- `2^e`, underflow flushed to zero and overflow to infinity. -/
abbrev rpow2 (e : IVec ⟨0, ![]⟩ 32) : FVec Ideal ⟨0, ![]⟩ .f32 :=
  select (cmpi .sgt e (constantI ⟨0, ![]⟩ 32 127#32)) (id (constant ⟨0, ![]⟩ .f32 0x7F800000#32))
    (select (cmpi .slt e (constantI ⟨0, ![]⟩ 32 4294967170#32)) (id (constant ⟨0, ![]⟩ .f32 0x00000000#32))
      (Host.powf (constant ⟨0, ![]⟩ .f32 0x40000000#32) (sitofp .f32 e)))

/-- A sum of 254 bits counts them. -/
theorem reduce_count (msk : IVec ⟨1, ![254]⟩ 1) (j : (⟨0, ![]⟩ : Shape).Idx) :
    Host.reduce IntOp.addi (extui 32 msk hw) (constantI ⟨0, ![]⟩ 32 0#32) hr hu j
      = BitVec.ofNat 32 (Finset.univ.filter fun k : Fin 254 => msk (ix1 k) = 1#1).card := by
  classical
  have hval : ∀ i, (extui 32 msk hw i).toNat = if msk i = 1#1 then 1 else 0 := fun i => StableHlo.Predicate.toNat_setWidth_bit (msk i)
  have hall : (Finset.univ.filter fun i : (⟨1, ![254]⟩ : Shape).Idx => hr.drop i = j) = Finset.univ :=
    Finset.filter_true_of_mem fun i _ => funext fun d => d.elim0
  have hsum : ∑ i : (⟨1, ![254]⟩ : Shape).Idx, (extui 32 msk hw i).toNat
      = (Finset.univ.filter fun k : Fin 254 => msk (ix1 k) = 1#1).card := by
    rw [Finset.card_filter]
    refine Finset.sum_bij' (fun i _ => i 0) (fun k _ => ix1 k) (fun _ _ => Finset.mem_univ _) (fun _ _ => Finset.mem_univ _)
      (fun i _ => funext fun d => match d with | ⟨0, _⟩ => rfl) (fun _ _ => rfl) (fun i _ => ?_)
    rw [hval]
    exact congrArg (fun x => if msk x = 1#1 then 1 else 0) (funext fun d => match d with | ⟨0, _⟩ => rfl)
  have hle : (Finset.univ.filter fun k : Fin 254 => msk (ix1 k) = 1#1).card ≤ 254 :=
    (Finset.card_le_univ _).trans (by simp)
  apply BitVec.eq_of_toNat_eq
  rw [Host.reduce_eq_fold, hall]
  show (Finset.fold IntOp.addi 0#32 (extui 32 msk hw) Finset.univ).toNat = _
  rw [StableHlo.Predicate.toNat_fold_addi _ _ (by rw [hsum]; omega), hsum, BitVec.toNat_ofNat, Nat.mod_eq_of_lt (by omega)]

/-- The powers the reference counts over, `2^(k-126)`, are those of the fields `1 … 254`. -/
theorem power_at (k : Fin 254) :
    Ideal.pow (Ideal.ofBits .f32 0x40000000#32) (((IntOp.addi (4294967170#32) (BitVec.ofNat 32 k.val)).toInt : ℝ) : EReal) = bnd (k.val + 1) := by
  have e : ∀ k : Fin 254, (IntOp.addi (4294967170#32) (BitVec.ofNat 32 k.val)).toInt = (k.val : ℤ) - 126 := by decide +kernel
  rw [ofBits_two, Ideal.pow_coe_coe, e k, bnd_lt (by omega)]
  refine congrArg _ ?_
  show (2 : ℝ) ^ ((((k.val : ℤ) - 126 : ℤ)) : ℝ) = _
  rw [Real.rpow_intCast]
  refine congrArg _ ?_
  push_cast
  omega

theorem card_le (f : ℕ) (hf : f ≤ 254) : (Finset.univ.filter fun k : Fin 254 => k.val + 1 ≤ f).card = f := by
  have : (Finset.univ.filter fun k : Fin 254 => k.val + 1 ≤ f) = Finset.univ.filter fun k : Fin 254 => k.val < f := rfl
  rw [this]
  have := Fin.card_filter_val_lt (n := 254) (m := f)
  omega

theorem rcount_apply (a : FVec Ideal ⟨0, ![]⟩ .f32) (j : (⟨0, ![]⟩ : Shape).Idx) :
    rcount hb hw hr hu a j = BitVec.ofNat 32 (Finset.univ.filter fun k : Fin 254 => bnd (k.val + 1) ≤ a j).card := by
  rw [rcount, reduce_count]
  refine congrArg (fun s : Finset (Fin 254) => BitVec.ofNat 32 s.card) (Finset.filter_congr fun k _ => ?_)
  have hj : ∀ i : (⟨0, ![]⟩ : Shape).Idx, a i = a j := fun i => congrArg a (funext fun d => d.elim0)
  show BitVec.ofBool (decide (Ideal.pow (Ideal.ofBits .f32 0x40000000#32) (((IntOp.addi (4294967170#32) (BitVec.ofNat 32 k.val)).toInt : ℝ) : EReal)
    ≤ a _)) = 1#1 ↔ _
  rw [power_at, hj]
  by_cases h : bnd (k.val + 1) ≤ a j
  · simp [h]
  · simp [h]

/-- An exponent word: every exponent is the word of `f - 126` for a field `1 ≤ f ≤ 254`. -/
theorem exp_agree (h : FVec Ideal ⟨0, ![]⟩ .f32) (c : BitVec 32) (j : (⟨0, ![]⟩ : Shape).Idx) :
    rexp hb hw hr hu h c j = kexp (h j) c ∧ ∃ f : ℕ, 1 ≤ f ∧ f ≤ 254 ∧ kexp (h j) c = BitVec.ofNat 32 f - 126#32 := by
  set a : EReal := max (h j * Ideal.ofBits .f32 c) (-(h j * Ideal.ofBits .f32 c)) with ha
  obtain ⟨f, hf, ef, hs⟩ := kfield_spec a
  have hc : rcount hb hw hr hu (Host.absf (mulf h (constant ⟨0, ![]⟩ .f32 c))) j
      = BitVec.ofNat 32 (Finset.univ.filter fun k : Fin 254 => k.val + 1 ≤ f).card := by
    rw [rcount_apply]
    exact congrArg (fun s : Finset (Fin 254) => BitVec.ofNat 32 s.card)
      (Finset.filter_congr fun k _ => hs (k.val + 1) (by omega) (by omega))
  have hk : kexp (h j) c = Scalar.select (BitVec.ofBool (decide (h j = Ideal.ofBits .f32 0x00000000#32))) 0#32 (kfrexp a) := rfl
  have hr' : rexp hb hw hr hu h c j = Scalar.select (BitVec.ofBool (decide (h j = Ideal.ofBits .f32 0x00000000#32))) 0#32
      (Scalar.select (IntOp.ori (IntOp.cmpi .eq (rcount hb hw hr hu (Host.absf (mulf h (constant ⟨0, ![]⟩ .f32 c))) j) 0#32)
        (BitVec.ofBool (decide (a = Ideal.ofBits .f32 0x7F800000#32)))) 0#32
        (IntOp.subi (rcount hb hw hr hu (Host.absf (mulf h (constant ⟨0, ![]⟩ .f32 c))) j) 126#32)) := rfl
  rw [hk, hr', hc, ofBits_inf]
  unfold kfrexp
  rw [ef]
  have htop : a = ⊤ ↔ f = 255 := by
    rw [← top_le_iff, ← bnd_top (le_refl 255), hs 255 (by omega) (by omega)]; omega
  by_cases h0 : h j = Ideal.ofBits .f32 0x00000000#32
  · rw [decide_eq_true h0]
    exact ⟨rfl, 126, by omega, by omega, rfl⟩
  · rw [decide_eq_false h0]
    by_cases h255 : f = 255
    · rw [decide_eq_true (htop.2 h255), h255]
      refine ⟨?_, 126, by omega, by omega, rfl⟩
      have : ∀ b : BitVec 1, IntOp.ori b (BitVec.ofBool true) = 1#1 := by decide
      rw [this]; rfl
    · rw [decide_eq_false (fun e => h255 (htop.1 e)), card_le f (by omega)]
      have hw0 : ∀ f : Fin 255, Scalar.select (Scalar.ori (Scalar.cmpi .eq (BitVec.ofNat 32 f.val) 0#32) (Scalar.cmpi .eq (BitVec.ofNat 32 f.val) 255#32)) 0#32
          (Scalar.subi (BitVec.ofNat 32 f.val) 126#32) = if f.val = 0 then BitVec.ofNat 32 126 - 126#32 else BitVec.ofNat 32 f.val - 126#32 := by decide +kernel
      have hw1 : ∀ f : Fin 255, Scalar.select (IntOp.ori (IntOp.cmpi .eq (BitVec.ofNat 32 f.val) 0#32) (BitVec.ofBool false)) 0#32
          (IntOp.subi (BitVec.ofNat 32 f.val) 126#32) = if f.val = 0 then BitVec.ofNat 32 126 - 126#32 else BitVec.ofNat 32 f.val - 126#32 := by decide +kernel
      have e0 := hw0 ⟨f, by omega⟩
      have e1 := hw1 ⟨f, by omega⟩
      dsimp only at e0 e1
      rw [e0, e1]
      refine ⟨rfl, ?_⟩
      by_cases hf0 : f = 0
      · exact ⟨126, by omega, by omega, by rw [if_pos hf0]; rfl⟩
      · exact ⟨f, by omega, by omega, by rw [if_neg hf0]; rfl⟩

/-- The two spellings of `2^e`, at the word of an integer between -128 and 128. -/
theorem pow2_word {e : BitVec 32} (n : ℤ) (hn : -128 ≤ n ∧ n ≤ 128) (he : e.toInt = n)
    (hbias : -126 ≤ n → kbias e = BitVec.ofNat 32 (n + 127).toNat) (hsmall : n < -126 → Scalar.cmpi .sle (kbias e) 0#32 = 1#1) :
    Scalar.select (IntOp.cmpi .sgt e 127#32) (Ideal.ofBits .f32 0x7F800000#32)
      (Scalar.select (IntOp.cmpi .slt e 4294967170#32) (Ideal.ofBits .f32 0x00000000#32)
        (Ideal.pow (Ideal.ofBits .f32 0x40000000#32) ((e.toInt : ℝ) : EReal))) = kpow2 e := by
  have hsgt : IntOp.cmpi .sgt e 127#32 = BitVec.ofBool (decide (127 < n)) := by
    show BitVec.ofBool (BitVec.slt 127#32 e) = _
    rw [BitVec.slt_eq_decide, he]; rfl
  have hslt : IntOp.cmpi .slt e 4294967170#32 = BitVec.ofBool (decide (n < -126)) := by
    show BitVec.ofBool (BitVec.slt e 4294967170#32) = _
    rw [BitVec.slt_eq_decide, he]; rfl
  rw [hsgt, hslt, he]
  unfold kpow2
  by_cases h1 : n < -126
  · rw [hsmall h1, decide_eq_false (by omega : ¬ 127 < n), decide_eq_true h1]; rfl
  · have hk := hbias (by omega)
    obtain ⟨f, hfe⟩ : ∃ f : ℕ, (n + 127).toNat = f := ⟨_, rfl⟩
    have hf1 : 1 ≤ f := by omega
    have hf2 : f ≤ 255 := by omega
    have hnf : n = (f : ℤ) - 127 := by omega
    have hsle : ∀ f : Fin 256, 1 ≤ f.val → Scalar.cmpi .sle (BitVec.ofNat 32 f.val) 0#32 = 0#1 := by decide +kernel
    have hsge : ∀ f : Fin 256, Scalar.cmpi .sge (BitVec.ofNat 32 f.val) 255#32 = BitVec.ofBool (decide (255 ≤ f.val)) := by decide +kernel
    have e1 := hsle ⟨f, by omega⟩ hf1
    have e2 := hsge ⟨f, by omega⟩
    dsimp only at e1 e2
    rw [hk, hfe, e1, e2]
    have hs : Scalar.shli (BitVec.ofNat 32 f) 23#32 = BitVec.ofNat 32 f <<< 23 := rfl
    have hword : Scalar.ofBits (F := Ideal) .f32 (Scalar.shli (BitVec.ofNat 32 f) 23#32) = bnd f := by rw [hs]; exact ofBits_word hf1 hf2
    rw [hword, decide_eq_false h1]
    by_cases h255 : 255 ≤ f
    · rw [decide_eq_true h255, decide_eq_true (by omega : 127 < n)]; rfl
    · rw [decide_eq_false h255, decide_eq_false (by omega : ¬ 127 < n)]
      rw [select_false, select_false, select_zero, select_false, ofBits_two, Ideal.pow_coe_coe, bnd_lt (by omega), hnf]
      refine congrArg _ ?_
      show (2 : ℝ) ^ ((((f : ℤ) - 127 : ℤ)) : ℝ) = _
      rw [Real.rpow_intCast]

theorem pos_facts : ∀ f : Fin 255, (BitVec.ofNat 32 f.val - 126#32).toInt = (f.val : ℤ) - 126
    ∧ kbias (BitVec.ofNat 32 f.val - 126#32) = BitVec.ofNat 32 (f.val + 1) := by decide +kernel

theorem neg_facts : ∀ f : Fin 255, (Scalar.subi 0#32 (BitVec.ofNat 32 f.val - 126#32)).toInt = 126 - (f.val : ℤ)
    ∧ (f.val ≤ 252 → kbias (Scalar.subi 0#32 (BitVec.ofNat 32 f.val - 126#32)) = BitVec.ofNat 32 (253 - f.val))
    ∧ (252 < f.val → Scalar.cmpi .sle (kbias (Scalar.subi 0#32 (BitVec.ofNat 32 f.val - 126#32))) 0#32 = 1#1)
    ∧ -(BitVec.ofNat 32 f.val - 126#32) = Scalar.subi 0#32 (BitVec.ofNat 32 f.val - 126#32) := by decide +kernel

/-- THE SCALE: the reference's and the kernel's are one extended real. -/
theorem rscale_eq (h : FVec Ideal ⟨0, ![]⟩ .f32) (c : BitVec 32) (j : (⟨0, ![]⟩ : Shape).Idx) :
    rpow2 (rexp hb hw hr hu h c) j = kpow2 (kexp (h j) c) := by
  obtain ⟨e, f, h1, h2, ef⟩ := exp_agree hb hw hr hu h c j
  obtain ⟨p1, p2⟩ := pos_facts ⟨f, by omega⟩
  dsimp only at p1 p2
  show Scalar.select (IntOp.cmpi .sgt (rexp hb hw hr hu h c j) 127#32) (Ideal.ofBits .f32 0x7F800000#32)
      (Scalar.select (IntOp.cmpi .slt (rexp hb hw hr hu h c j) 4294967170#32) (Ideal.ofBits .f32 0x00000000#32)
        (Ideal.pow (Ideal.ofBits .f32 0x40000000#32) (((rexp hb hw hr hu h c j).toInt : ℝ) : EReal))) = _
  rw [e, ef]
  refine pow2_word ((f : ℤ) - 126) (by omega) p1 (fun _ => ?_) (fun _ => by omega)
  rw [p2]
  exact congrArg _ (by omega)

/-- THE INVERSE SCALE, `2^-e`: the reference's and the kernel's are one extended real. -/
theorem rinv_eq (h : FVec Ideal ⟨0, ![]⟩ .f32) (c : BitVec 32) (j : (⟨0, ![]⟩ : Shape).Idx) :
    rpow2 (negi (rexp hb hw hr hu h c)) j = kpow2 (Scalar.subi 0#32 (kexp (h j) c)) := by
  obtain ⟨e, f, h1, h2, ef⟩ := exp_agree hb hw hr hu h c j
  obtain ⟨p1, p2, p3, p4⟩ := neg_facts ⟨f, by omega⟩
  dsimp only at p1 p2 p3 p4
  show Scalar.select (IntOp.cmpi .sgt (-(rexp hb hw hr hu h c j)) 127#32) (Ideal.ofBits .f32 0x7F800000#32)
      (Scalar.select (IntOp.cmpi .slt (-(rexp hb hw hr hu h c j)) 4294967170#32) (Ideal.ofBits .f32 0x00000000#32)
        (Ideal.pow (Ideal.ofBits .f32 0x40000000#32) (((-(rexp hb hw hr hu h c j)).toInt : ℝ) : EReal))) = _
  rw [e, ef, p4]
  refine pow2_word (126 - (f : ℤ)) (by omega) p1 (fun _ => ?_) (fun _ => p3 (by omega))
  rw [p2 (by omega)]
  exact congrArg _ (by omega)

end Ref

end Cert.Scale
-- ==== Proof.Amax.lean ====
/-
  Maxima over the extended reals, told by their upper bounds: a reduction by `maximumf`, a recast, a clip. A maximum taken
  block by block and one taken at once have the same upper bounds, and so are the same.
-/
module

public import Idealize.ShloMosaic.Lib.Pipeline.ValueKit
public import proofs.«01_k».proof.Proof.Scale

@[expose] public section

set_option maxRecDepth 16384

noncomputable section

namespace Cert.Scale

open Idealize.ShloMosaic

variable {s t u : Shape} {φ : FTy}

/-- A number with the upper bounds of another is that number. -/
theorem eq_of_bounds {x y : EReal} (h : ∀ b, x ≤ b ↔ y ≤ b) : x = y := eq_of_forall_ge_iff h

theorem fold_max_le_iff (A : Finset s.Idx) (i : EReal) (hi : i = ⊥) (x : s.Idx → EReal) (b : EReal) :
    A.fold (FloatOps.maximumf (F := Ideal) (φ := φ)) i x ≤ b ↔ ∀ k ∈ A, x k ≤ b := by
  subst hi
  have h := Finset.fold_max_le (f := x) (b := (⊥ : EReal)) (s := A) (c := b)
  simp only [bot_le, true_and] at h
  exact h

/-- A `maximumf` reduction from minus infinity: all its results are at most `b` when all entries are. -/
theorem forall_mred_le {axes : List (Fin s.rank)} (src : FVec Ideal s φ) (acc : BitVec φ.bits) (h : s.Reduces axes t)
    (hφ : FKind.Formats φ) (hacc : acc = FKind.maximumf.neutral φ hφ) (h0 : Ideal.ofBits φ acc = ⊥) (b : EReal) :
    (∀ j, multiReduction (F := Ideal) .maximumf axes t src acc h hφ hacc j ≤ b) ↔ ∀ i, src i ≤ b := by
  have e : ∀ j, multiReduction (F := Ideal) .maximumf axes t src acc h hφ hacc j ≤ b ↔ ∀ i, h.drop i = j → src i ≤ b := by
    intro j
    rw [multiReduction_maximumf_eq_fold]
    refine (fold_max_le_iff (φ := φ) _ _ h0 src b).trans ?_
    simp only [Finset.mem_filter, Finset.mem_univ, true_and]
  exact ⟨fun H i => (e _).1 (H (h.drop i)) i rfl, fun H j => (e j).2 fun i _ => H i⟩

/-- A recast moves entries and changes none. -/
theorem forall_shapeCast_le (x : s.Idx → EReal) (h : s.ShapeCasts t) (b : EReal) :
    (∀ j, shapeCast t x h j ≤ b) ↔ ∀ i, x i ≤ b := by
  refine ⟨fun H i => ?_, fun H j => H _⟩
  have := H ((Shape.reshapeEquiv h).symm i)
  unfold shapeCast at this
  rwa [Equiv.apply_symm_apply] at this

/-- The host's maximum of a whole array. -/
theorem host_max_le {axes : List (Fin s.rank)} (x : s.Idx → EReal) (init : u.Idx → EReal) (h : s.ReducesTo axes ⟨0, ![]⟩) (hu : 0 < u.numel)
    (h0 : init (Shape.Idx.first hu) = ⊥) (j : (⟨0, ![]⟩ : Shape).Idx) (b : EReal) :
    Host.reduce (FloatOps.maximumf (F := Ideal) (φ := φ)) x init h hu j ≤ b ↔ ∀ i, x i ≤ b := by
  rw [Host.reduce_eq_fold]
  refine (fold_max_le_iff (φ := φ) _ _ h0 x b).trans ?_
  simp only [Finset.mem_filter, Finset.mem_univ, true_and]
  exact ⟨fun H i => H i (funext fun a => a.elim0), fun H i _ => H i⟩

/-- The greatest of sixteen, first to last. -/
def hmax (f : Fin 16 → EReal) : EReal :=
  max (max (max (max (max (max (max (max (max (max (max (max (max (max (max (f 0) (f 1)) (f 2)) (f 3)) (f 4)) (f 5)) (f 6)) (f 7)) (f 8)) (f 9))
    (f 10)) (f 11)) (f 12)) (f 13)) (f 14)) (f 15)

theorem hmax_le (f : Fin 16 → EReal) (b : EReal) : hmax f ≤ b ↔ ∀ k, f k ≤ b := by
  unfold hmax
  simp only [max_le_iff, Fin.forall_fin_succ, Fin.forall_fin_zero_pi, and_assoc]
  simp only [Fin.isValue, IsEmpty.forall_iff, and_true]
  rfl

/-- The host's maximum of a history is the scalar one. -/
theorem hmax_eq (x : (⟨1, ![16]⟩ : Shape).Idx → EReal) {axes : List (Fin 1)} (init : u.Idx → EReal)
    (h : (⟨1, ![16]⟩ : Shape).ReducesTo axes ⟨0, ![]⟩) (hu : 0 < u.numel)
    (h0 : init (Shape.Idx.first hu) = ⊥) (j : (⟨0, ![]⟩ : Shape).Idx) :
    Host.reduce (FloatOps.maximumf (F := Ideal) (φ := φ)) x init h hu j = hmax fun k => x (ix1 k) := by
  refine eq_of_bounds fun b => ?_
  rw [host_max_le (φ := φ) x init h hu h0, hmax_le]
  refine ⟨fun H k => H _, fun H i => ?_⟩
  have e : i = ix1 (i 0) := funext fun a => by fin_cases a; rfl
  rw [e]
  exact H (i 0)

/-- One scalar read of a history of sixteen. -/
theorem ld_hist {Val : EltTy → Type} {e : EltTy} (x : (⟨1, ![16]⟩ : Shape).Idx → Val e) (k : ℕ) (hk : k < 16)
    (h : ∀ a, (![k] : Fin 1 → ℕ) a + (![1] : Fin 1 → ℕ) a ≤ (⟨1, ![16]⟩ : Shape).size a)
    (h' : 0 < (Rect.unit (s := ⟨1, ![16]⟩) ![k] ![1] h).shape.numel) :
    View.ld x (Rect.unit (s := ⟨1, ![16]⟩) ![k] ![1] h) (Shape.Idx.first h') = x (ix1 ⟨k, hk⟩) := by
  change x ((Rect.unit (s := ⟨1, ![16]⟩) ![k] ![1] h).idx (Shape.Idx.first h')) = _
  refine congrArg x (funext fun a => ?_)
  fin_cases a
  apply Fin.ext
  have : ∀ y : Fin 1, k + 1 * y.val = k := fun y => by omega
  exact this _

/-- The absolute value, as the programs take it. -/
def ab (x : EReal) : EReal := max x (-x)

theorem ab_nonneg (x : EReal) : 0 ≤ ab x := by
  rcases le_total 0 x with h | h
  · exact h.trans (le_max_left _ _)
  · exact (by simpa using EReal.neg_le_neg_iff.2 h : (0 : EReal) ≤ -x).trans (le_max_right _ _)

/-- The product with a scale's inverse, clipped between two bounds. -/
def clip (lo hi : BitVec 32) (x r : EReal) : EReal :=
  min (Ideal.ofBits .f32 hi) (max (Ideal.ofBits .f32 lo) (x * r))

/-! ## The history moved down by one -/

/-- A history with its first entry dropped and a new last one. -/
def shift (x : (⟨1, ![16]⟩ : Shape).Idx → EReal) (v : EReal) (y : (⟨1, ![16]⟩ : Shape).Idx) : EReal :=
  if h : (y 0).val < 15 then x (ix1 ⟨(y 0).val + 1, Nat.succ_lt_succ h⟩) else v

/-- A store of entry `k + 1` at place `k`. -/
theorem tile_mid (x : (⟨1, ![16]⟩ : Shape).Idx → EReal) (v : EReal) (y : (⟨1, ![16]⟩ : Shape).Idx) (k : ℕ) (hk : k < 15)
    (h : ∀ a, (![k + 1] : Fin 1 → ℕ) a + (![1] : Fin 1 → ℕ) a ≤ (⟨1, ![16]⟩ : Shape).size a)
    (h' : 0 < (Rect.unit (s := ⟨1, ![16]⟩) ![k + 1] ![1] h).shape.numel) :
    View.TileAt (Val := Elt Ideal) (e := .f32) (S := ⟨1, ![16]⟩) y ![k] ![1]
      (fun _ => View.ld (Val := Elt Ideal) (e' := .f32) x (Rect.unit (s := ⟨1, ![16]⟩) ![k + 1] ![1] h) (Shape.Idx.first h')) (shift x v y) := by
  intro z hz
  have h0 : (y 0).val = k + (z 0).val := hz 0
  have hz0 : (z 0).val < 1 := (z 0).isLt
  have e : (y 0).val = k := by omega
  dsimp only
  rw [ld_hist (Val := Elt Ideal) (e := .f32) x (k + 1) (by omega) h h']
  unfold shift
  rw [dif_pos (by omega)]
  simp only [e]

/-- The store of the new last entry. -/
theorem tile_last (x : (⟨1, ![16]⟩ : Shape).Idx → EReal) (v : EReal) (y : (⟨1, ![16]⟩ : Shape).Idx) :
    View.TileAt (Val := Elt Ideal) (e := .f32) (S := ⟨1, ![16]⟩) y ![15] ![1] (fun _ => v) (shift x v y) := by
  intro z hz
  have h0 : (y 0).val = 15 + (z 0).val := hz 0
  unfold shift
  rw [dif_neg (by omega)]

/-- The host's spelling. -/
theorem shift_host (x : (⟨1, ![16]⟩ : Shape).Idx → EReal) (v : (⟨1, ![1]⟩ : Shape).Idx → EReal) (r : EReal) (hv : ∀ i, v i = r)
    (hs : (⟨1, ![16]⟩ : Shape).Slices ![1] ⟨1, ![15]⟩)
    (h : Shape.Concatenates [(⟨1, ![15]⟩ : Shape), ⟨1, ![1]⟩] ⟨1, ![16]⟩ 0) (y : (⟨1, ![16]⟩ : Shape).Idx) :
    concatenate (⟨1, ![16]⟩ : Shape) 0 [⟨⟨1, ![15]⟩, extractStridedSlice (⟨1, ![15]⟩ : Shape) ![1] x hs⟩, ⟨⟨1, ![1]⟩, v⟩] h y = shift x r y := by
  unfold shift
  by_cases hy : (y 0).val < 15
  · rw [dif_pos hy, concatenate_pair_apply_left (s₁ := ⟨1, ![15]⟩) (s₂ := ⟨1, ![1]⟩) 0 _ v h y rfl (ix1 ⟨(y 0).val, hy⟩) (fun b => by fin_cases b; rfl)]
    · refine congrArg x (funext fun a => ?_)
      fin_cases a
      exact Fin.ext (Nat.add_comm 1 _)
  · rw [dif_neg hy, concatenate_pair_apply_right (s₁ := ⟨1, ![15]⟩) (s₂ := ⟨1, ![1]⟩) 0 _ v h y rfl rfl (ix1 ⟨0, Nat.one_pos⟩)
      (fun b hb => absurd (by fin_cases b; rfl) hb) (by have h16 : (y 0).val < 16 := (y 0).isLt; show 0 + 15 = (y 0).val; omega)]
    · exact hv _

end Cert.Scale
-- ==== Proof.WValue.lean ====
/-
  What the weight quantiser leaves, over the extended reals: its codes, its new history and its scale, as functions of the
  weights and of the history.
-/
module
public import proofs.«01_k».proof.Proof.Gen.KWIdeal.Value
public import proofs.«01_k».proof.Proof.Amax
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.KWIdeal.Value
open Cert.KWIdeal Cert.KWIdeal.Gen
open Cert.Scale (kpow2 kexp hmax clip ld_hist kstep kfield kfrexp)
variable (m : (ℓ : Loc nD τ sig) → Buf (Elt Ideal) ℓ)

/-- One scalar read of a history. -/
abbrev rd (x : S16.Idx → EReal) (k : ℕ) (h : ∀ a, (![k] : Fin 1 → ℕ) a + S1.size a ≤ S16.size a) : EReal :=
  View.ld (Val := Elt Ideal) (e' := .f32) x (Rect.unit (s := S16) ![k] S1.size h) (Shape.Idx.first (numel1_S1.symm ▸ Nat.one_pos))

theorem rd_eq (x : S16.Idx → EReal) (k : ℕ) (hk : k < 16) (h : ∀ a, (![k] : Fin 1 → ℕ) a + S1.size a ≤ S16.size a) :
    rd x k h = x (ix1 ⟨k, hk⟩) := ld_hist (Val := Elt Ideal) (e := .f32) x k hk h _

/-- The greatest of a history's sixteen scalar reads, as the body computes it. -/
def hist (x : S16.Idx → EReal) : EReal :=
  k0_pay3 (F := Ideal) (rd x 0 inb_S16_S1_0) (rd x 1 inb_S16_S1_1) (rd x 2 inb_S16_S1_2) (rd x 3 inb_S16_S1_3) (rd x 4 inb_S16_S1_4) (rd x 5 inb_S16_S1_5) (rd x 6 inb_S16_S1_6) (rd x 7 inb_S16_S1_7) (rd x 8 inb_S16_S1_8) (rd x 9 inb_S16_S1_9) (rd x 10 inb_S16_S1_10) (rd x 11 inb_S16_S1_11) (rd x 12 inb_S16_S1_12) (rd x 13 inb_S16_S1_13) (rd x 14 inb_S16_S1_14) (rd x 15 inb_S16_S1_15)

/-- The absolute value the bisection is run on. -/
def mag (x : S16.Idx → EReal) : EReal :=
  k0_pay4 (F := Ideal) (rd x 0 inb_S16_S1_0) (rd x 1 inb_S16_S1_1) (rd x 2 inb_S16_S1_2) (rd x 3 inb_S16_S1_3) (rd x 4 inb_S16_S1_4) (rd x 5 inb_S16_S1_5) (rd x 6 inb_S16_S1_6) (rd x 7 inb_S16_S1_7) (rd x 8 inb_S16_S1_8) (rd x 9 inb_S16_S1_9) (rd x 10 inb_S16_S1_10) (rd x 11 inb_S16_S1_11) (rd x 12 inb_S16_S1_12) (rd x 13 inb_S16_S1_13) (rd x 14 inb_S16_S1_14) (rd x 15 inb_S16_S1_15)

theorem hist_eq (x : S16.Idx → EReal) : hist x = hmax fun k => x (ix1 k) := by
  unfold hist
  simp only [rd_eq x 0 (by omega), rd_eq x 1 (by omega), rd_eq x 2 (by omega), rd_eq x 3 (by omega), rd_eq x 4 (by omega), rd_eq x 5 (by omega), rd_eq x 6 (by omega), rd_eq x 7 (by omega), rd_eq x 8 (by omega), rd_eq x 9 (by omega), rd_eq x 10 (by omega), rd_eq x 11 (by omega), rd_eq x 12 (by omega), rd_eq x 13 (by omega), rd_eq x 14 (by omega), rd_eq x 15 (by omega)]
  rfl

theorem mag_eq (x : S16.Idx → EReal) : mag x = Scalar.absf (F := Ideal) (φ := .f32) (Scalar.mulf (F := Ideal) (φ := .f32) (hist x) (Scalar.ofBits (F := Ideal) .f32 0x3B124925#32)) := rfl

/-! The bisection's eight trial fields, in the body's words. -/

def w1 (a : EReal) : BitVec 32 := Scalar.select (Scalar.cmpf (F := Ideal) (φ := .f32) .oge a (k0_pay5 (F := Ideal))) (Scalar.addi 0#32 128#32) 0#32
def w2 (a : EReal) : BitVec 32 := Scalar.select (Scalar.cmpf (F := Ideal) (φ := .f32) .oge a (k0_pay6 (F := Ideal) (w1 a))) (Scalar.addi (w1 a) 64#32) (w1 a)
def w3 (a : EReal) : BitVec 32 := Scalar.select (Scalar.cmpf (F := Ideal) (φ := .f32) .oge a (k0_pay7 (F := Ideal) a (w1 a))) (Scalar.addi (w2 a) 32#32) (w2 a)
def w4 (a : EReal) : BitVec 32 := Scalar.select (Scalar.cmpf (F := Ideal) (φ := .f32) .oge a (k0_pay8 (F := Ideal) a (w1 a))) (Scalar.addi (w3 a) 16#32) (w3 a)
def w5 (a : EReal) : BitVec 32 := Scalar.select (Scalar.cmpf (F := Ideal) (φ := .f32) .oge a (k0_pay9 (F := Ideal) a (w1 a))) (Scalar.addi (w4 a) 8#32) (w4 a)
def w6 (a : EReal) : BitVec 32 := Scalar.select (Scalar.cmpf (F := Ideal) (φ := .f32) .oge a (k0_pay10 (F := Ideal) a (w1 a))) (Scalar.addi (w5 a) 4#32) (w5 a)
def w7 (a : EReal) : BitVec 32 := Scalar.select (Scalar.cmpf (F := Ideal) (φ := .f32) .oge a (k0_pay11 (F := Ideal) a (w1 a))) (Scalar.addi (w6 a) 2#32) (w6 a)
def w8 (a : EReal) : BitVec 32 := Scalar.select (Scalar.cmpf (F := Ideal) (φ := .f32) .oge a (k0_pay12 (F := Ideal) a (w1 a))) (Scalar.addi (w7 a) 1#32) (w7 a)

theorem pay5_eq : k0_pay5 (F := Ideal) = Scalar.ofBits (F := Ideal) .f32 (Scalar.shli (Scalar.addi 0#32 128#32) 23#32) := rfl
theorem pay6_eq (a : EReal) : k0_pay6 (F := Ideal) (w1 a) = Scalar.ofBits (F := Ideal) .f32 (Scalar.shli (Scalar.addi (w1 a) 64#32) 23#32) := rfl
theorem pay7_eq (a : EReal) : k0_pay7 (F := Ideal) a (w1 a) = Scalar.ofBits (F := Ideal) .f32 (Scalar.shli (Scalar.addi (w2 a) 32#32) 23#32) := rfl
theorem pay8_eq (a : EReal) : k0_pay8 (F := Ideal) a (w1 a) = Scalar.ofBits (F := Ideal) .f32 (Scalar.shli (Scalar.addi (w3 a) 16#32) 23#32) := rfl
theorem pay9_eq (a : EReal) : k0_pay9 (F := Ideal) a (w1 a) = Scalar.ofBits (F := Ideal) .f32 (Scalar.shli (Scalar.addi (w4 a) 8#32) 23#32) := rfl
theorem pay10_eq (a : EReal) : k0_pay10 (F := Ideal) a (w1 a) = Scalar.ofBits (F := Ideal) .f32 (Scalar.shli (Scalar.addi (w5 a) 4#32) 23#32) := rfl
theorem pay11_eq (a : EReal) : k0_pay11 (F := Ideal) a (w1 a) = Scalar.ofBits (F := Ideal) .f32 (Scalar.shli (Scalar.addi (w6 a) 2#32) 23#32) := rfl
theorem pay12_eq (a : EReal) : k0_pay12 (F := Ideal) a (w1 a) = Scalar.ofBits (F := Ideal) .f32 (Scalar.shli (Scalar.addi (w7 a) 1#32) 23#32) := rfl

/-- The body's bisection is the one of `Scale`. -/
theorem w8_eq (a : EReal) : w8 a = kfield a := by
  unfold w8 kfield kstep
  rw [pay12_eq]
  have e1 : w1 a = kstep a 0#32 128#32 := rfl
  have e2 : w2 a = kstep a (w1 a) 64#32 := rfl
  have e3 : w3 a = kstep a (w2 a) 32#32 := by unfold w3; rw [pay7_eq]
  have e4 : w4 a = kstep a (w3 a) 16#32 := by unfold w4; rw [pay8_eq]
  have e5 : w5 a = kstep a (w4 a) 8#32 := by unfold w5; rw [pay9_eq]
  have e6 : w6 a = kstep a (w5 a) 4#32 := by unfold w6; rw [pay10_eq]
  have e7 : w7 a = kstep a (w6 a) 2#32 := by unfold w7; rw [pay11_eq]
  rw [e7, e6, e5, e4, e3, e2, e1]

/-- The exponent before the zero test, in the body's words. -/
def pre (x : S16.Idx → EReal) : BitVec 32 :=
  Scalar.select (Scalar.ori (Scalar.cmpi .eq (w8 (mag x)) 0#32) (Scalar.cmpi .eq (w8 (mag x)) 255#32)) 0#32 (Scalar.subi (w8 (mag x)) 126#32)

/-- The zero test. -/
def isz (x : S16.Idx → EReal) : BitVec 1 :=
  Scalar.cmpf (F := Ideal) (φ := .f32) .oeq (hist x) (Scalar.ofBits (F := Ideal) .f32 0x00000000#32)

/-- Together they are the scale's exponent. -/
theorem ex_eq (x : S16.Idx → EReal) : Scalar.select (isz x) 0#32 (pre x) = kexp (hmax fun k => x (ix1 k)) 0x3B124925#32 := by
  unfold isz pre kexp kfrexp
  rw [w8_eq, mag_eq, hist_eq]

/-- The absolute maximum so far: its upper bounds are those of what was there and of the block. -/
theorem pay15_le (blk : S256x3200.Idx → EReal) (scr : S8x3200.Idx → EReal) (b : EReal) :
    (∀ j, k0_pay15 (F := Ideal) blk scr j ≤ b) ↔ (∀ j, scr j ≤ b) ∧ ∀ i, Scale.ab (blk i) ≤ b := by
  unfold k0_pay15
  try dsimp only
  rw [Scale.forall_shapeCast_le]
  have h := Scale.forall_mred_le (φ := .f32) (shapeCast S32x8x3200 (absf (F := Ideal) (φ := .f32) blk) shapeCasts_S256x3200_S32x8x3200) 0xFF800000#32
    reduces_S32x8x3200_S8x3200 (.inl rfl) rfl Scale.ofBits_neg_inf b
  rw [Scale.forall_shapeCast_le] at h
  refine Iff.trans ?_ (and_congr_right fun _ => h)
  rw [← forall_and]
  exact forall_congr' fun j => max_le_iff

theorem pay14_le (b : EReal) : (∀ j, k0_pay14 (F := Ideal) j ≤ b) ↔ 0 ≤ b := by
  unfold k0_pay14
  try dsimp only
  rw [Scale.forall_shapeCast_le]
  have e : ∀ i, broadcast (α := EReal) S8x3200 (Scalar.ofBits (F := Ideal) .f32 0x00000000#32) i = 0 := fun i => Scale.ofBits_zero
  exact ⟨fun h => (e (ix2 ⟨0, by omega⟩ ⟨0, by omega⟩)).symm.trans_le (h (ix2 ⟨0, by omega⟩ ⟨0, by omega⟩)), fun h i => (e i).trans_le h⟩

/-- The last point's maximum over the scratch. -/
theorem pay2_le (scr : S8x3200.Idx → EReal) (b : EReal) : k0_pay2 (F := Ideal) scr ≤ b ↔ ∀ j, scr j ≤ b := by
  have h := Scale.forall_mred_le (φ := .f32) (shapeCast S1x8x3200 scr shapeCasts_S8x3200_S1x8x3200) 0xFF800000#32
    reduces_S1x8x3200_S1 (.inl rfl) rfl Scale.ofBits_neg_inf b
  rw [Scale.forall_shapeCast_le] at h
  refine Iff.trans ?_ h
  have e2 : k0_pay2 (F := Ideal) scr = multiReduction (F := Ideal) (φ := .f32) .maximumf [1, 2] S1 (shapeCast S1x8x3200 scr shapeCasts_S8x3200_S1x8x3200)
      0xFF800000#32 reduces_S1x8x3200_S1 (.inl rfl) rfl (Shape.reshapeEquiv shapeCasts_S1_S1x1x1 fun a => ⟨(![0, 0, 0] : Fin 3 → ℕ) a, inpos_S1x1x1_p0_0_0 a⟩) := by
    unfold k0_pay2 extractAt
    rfl
  rw [e2]
  refine ⟨fun H j => ?_, fun H => H _⟩
  have e : ∀ i j : S1.Idx, i = j := fun i j => funext fun a => by fin_cases a; exact Subsingleton.elim (α := Fin 1) _ _
  rw [e j _]
  exact H

theorem codesA (c : Dev nD) (t : Fin cfg0.N) (h0 : t.val % 7 = 0) (h1 : ¬t.val % 7 = 6) :
    (outsAt0 m c t.val t.isLt).1 = k0_pay13 (F := Ideal) (pre (iblk m c 0 t)) (isz (iblk m c 0 t)) (iblk m c 1 t) := by
  rw [outsAt0_A m c t h0 h1]
  frame_out
  rfl

theorem codesB (c : Dev nD) (t : Fin cfg0.N) (h0 : ¬t.val % 7 = 0) (h1 : ¬t.val % 7 = 6) :
    (outsAt0 m c t.val t.isLt).1 = k0_pay13 (F := Ideal) (pre (iblk m c 0 t)) (isz (iblk m c 0 t)) (iblk m c 1 t) := by
  rw [outsAt0_B m c t h0 h1]
  frame_out
  rfl

theorem codesC (c : Dev nD) (t : Fin cfg0.N) (h0 : ¬t.val % 7 = 0) (h1 : t.val % 7 = 6) :
    (outsAt0 m c t.val t.isLt).1 = k0_pay13 (F := Ideal) (pre (iblk m c 0 t)) (isz (iblk m c 0 t)) (iblk m c 1 t) := by
  rw [outsAt0_C m c t h0 h1]
  frame_out
  rfl

theorem pay13_apply (v77 : BitVec 32) (v78 : BitVec 1) (blk : S256x3200.Idx → EReal) (y : S256x3200.Idx) :
    k0_pay13 (F := Ideal) v77 v78 blk y = clip 0xC3E00000#32 0x43E00000#32 (blk y) (kpow2 (Scalar.subi 0#32 (Scalar.select v78 0#32 v77))) := by
  unfold k0_pay13 clip kpow2 Scale.kbias
  generalize Scalar.subi 0#32 (Scalar.select v78 0#32 v77) = e
  generalize Scalar.addi 127#32 (Scalar.minsi 512#32 (Scalar.maxsi 4294966784#32 e)) = e
  generalize Scalar.select (Scalar.cmpi .sle e 0#32) (Scalar.ofBits (F := Ideal) .f32 0x00000000#32)
    (Scalar.select (Scalar.cmpi .sge e 255#32) (Scalar.ofBits (F := Ideal) .f32 0x7F800000#32) (Scalar.ofBits (F := Ideal) .f32 (Scalar.shli e 23#32))) = r
  rfl

/-- Every point's block of codes. -/
theorem codes (c : Dev nD) (t : Fin cfg0.N) (y : S256x3200.Idx) :
    (outsAt0 m c t.val t.isLt).1 y = clip 0xC3E00000#32 0x43E00000#32 ((iblk m c 1 t : S256x3200.Idx → EReal) y)
      (kpow2 (Scalar.subi 0#32 (kexp (hmax fun k => (iblk m c 0 t : S16.Idx → EReal) (ix1 k)) 0x3B124925#32))) := by
  rw [← ex_eq]
  by_cases h0 : t.val % 7 = 0
  · rw [codesA m c t h0 (by omega), pay13_apply]
  · by_cases h1 : t.val % 7 = 6
    · rw [codesC m c t h0 h1, pay13_apply]
    · rw [codesB m c t h0 h1, pay13_apply]

theorem scrA (c : Dev nD) (t : Fin cfg0.N) (h0 : t.val % 7 = 0) (h1 : ¬t.val % 7 = 6) :
    (outsAt0 m c t.val t.isLt).2.2.2 = k0_pay15 (F := Ideal) (iblk m c 1 t) (k0_pay14 (F := Ideal)) := by
  rw [outsAt0_A m c t h0 h1]
  frame_out

theorem scrB (c : Dev nD) (t : Fin cfg0.N) (h0 : ¬t.val % 7 = 0) (h1 : ¬t.val % 7 = 6) :
    (outsAt0 m c t.val t.isLt).2.2.2 = k0_pay15 (F := Ideal) (iblk m c 1 t) (outsAt0 m c (t.val - 1) (Nat.lt_of_le_of_lt (Nat.sub_le _ _) t.isLt)).2.2.2 := by
  rw [outsAt0_B m c t h0 h1]
  frame_out
  simp only [read_unread_whole]

theorem scrC (c : Dev nD) (t : Fin cfg0.N) (h0 : ¬t.val % 7 = 0) (h1 : t.val % 7 = 6) :
    (outsAt0 m c t.val t.isLt).2.2.2 = k0_pay15 (F := Ideal) (iblk m c 1 t) (outsAt0 m c (t.val - 1) (Nat.lt_of_le_of_lt (Nat.sub_le _ _) t.isLt)).2.2.2 := by
  rw [outsAt0_C m c t h0 h1]
  frame_out
  simp only [read_unread_whole]

/-- The scratch after point `n`: its upper bounds are those of zero and of every block so far. -/
theorem scr_le (c : Dev nD) (b : EReal) : ∀ n (hn : n < cfg0.N), (∀ j, (outsAt0 m c n hn).2.2.2 j ≤ b) ↔
    0 ≤ b ∧ ∀ t : Fin cfg0.N, t.val ≤ n → ∀ i, Scale.ab ((iblk m c 1 t : S256x3200.Idx → EReal) i) ≤ b := by
  intro n
  induction n with
  | zero =>
    intro hn
    have e := scrA m c ⟨0, hn⟩ rfl (by show ¬0 % 7 = 6; omega)
    dsimp only at e
    rw [e, pay15_le, pay14_le]
    refine and_congr_right fun _ => ⟨fun h t ht => ?_, fun h => h ⟨0, hn⟩ le_rfl⟩
    have : t = ⟨0, hn⟩ := Fin.ext (by show t.val = 0; omega)
    rw [this]; exact h
  | succ n ih =>
    intro hn
    have hN : cfg0.N = 7 := N_0
    have e : (outsAt0 m c (n + 1) hn).2.2.2 = k0_pay15 (F := Ideal) (iblk m c 1 ⟨n + 1, hn⟩) (outsAt0 m c n (by omega)).2.2.2 := by
      by_cases h1 : (n + 1) % 7 = 6
      · exact scrC m c ⟨n + 1, hn⟩ (by show ¬(n + 1) % 7 = 0; omega) h1
      · exact scrB m c ⟨n + 1, hn⟩ (by show ¬(n + 1) % 7 = 0; omega) h1
    rw [e, pay15_le, ih, and_assoc]
    refine and_congr_right fun _ => ⟨fun h t ht => ?_, fun h => ⟨fun t ht => h t (by omega), h ⟨n + 1, hn⟩ le_rfl⟩⟩
    rcases Nat.lt_or_ge t.val (n + 1) with h' | h'
    · exact h.1 t (by omega)
    · have : t = ⟨n + 1, hn⟩ := Fin.ext (by show t.val = n + 1; omega)
      rw [this]; exact h.2

/-- What the last point leaves in the history: the entries moved down by one, the new maximum last. -/
theorem histC (c : Dev nD) (t : Fin cfg0.N) (h0 : ¬t.val % 7 = 0) (h1 : t.val % 7 = 6) (y : S16.Idx) :
    (outsAt0 m c t.val t.isLt).2.1 y = Scale.shift (iblk m c 0 t) (k0_pay2 (F := Ideal) (outsAt0 m c t.val t.isLt).2.2.2) y := by
  rw [scrC m c t h0 h1]
  rw [outsAt0_C m c t h0 h1]
  frame_out
  simp only [read_unread_whole]
  refine View.canon_eq_of_allAt _ y _ (View.cover_of_tiled_head _ _ _ rfl y) ?_
  refine View.allAt_cons_unit _ _ _ _ _ (Scale.tile_last _ _ y) ?_
  refine View.allAt_cons_unit _ _ _ _ _ (Scale.tile_mid _ _ y 14 (by omega) _ _) ?_
  refine View.allAt_cons_unit _ _ _ _ _ (Scale.tile_mid _ _ y 13 (by omega) _ _) ?_
  refine View.allAt_cons_unit _ _ _ _ _ (Scale.tile_mid _ _ y 12 (by omega) _ _) ?_
  refine View.allAt_cons_unit _ _ _ _ _ (Scale.tile_mid _ _ y 11 (by omega) _ _) ?_
  refine View.allAt_cons_unit _ _ _ _ _ (Scale.tile_mid _ _ y 10 (by omega) _ _) ?_
  refine View.allAt_cons_unit _ _ _ _ _ (Scale.tile_mid _ _ y 9 (by omega) _ _) ?_
  refine View.allAt_cons_unit _ _ _ _ _ (Scale.tile_mid _ _ y 8 (by omega) _ _) ?_
  refine View.allAt_cons_unit _ _ _ _ _ (Scale.tile_mid _ _ y 7 (by omega) _ _) ?_
  refine View.allAt_cons_unit _ _ _ _ _ (Scale.tile_mid _ _ y 6 (by omega) _ _) ?_
  refine View.allAt_cons_unit _ _ _ _ _ (Scale.tile_mid _ _ y 5 (by omega) _ _) ?_
  refine View.allAt_cons_unit _ _ _ _ _ (Scale.tile_mid _ _ y 4 (by omega) _ _) ?_
  refine View.allAt_cons_unit _ _ _ _ _ (Scale.tile_mid _ _ y 3 (by omega) _ _) ?_
  refine View.allAt_cons_unit _ _ _ _ _ (Scale.tile_mid _ _ y 2 (by omega) _ _) ?_
  refine View.allAt_cons_unit _ _ _ _ _ (Scale.tile_mid _ _ y 1 (by omega) _ _) ?_
  refine View.allAt_cons_unit _ _ _ _ _ (Scale.tile_mid _ _ y 0 (by omega) _ _) ?_
  exact View.allAt_nil _ _

/-- What the last point leaves in the scale. -/
theorem scaleC (c : Dev nD) (t : Fin cfg0.N) (h0 : ¬t.val % 7 = 0) (h1 : t.val % 7 = 6) (y : S1.Idx) :
    (outsAt0 m c t.val t.isLt).2.2.1 y = k0_pay1 (F := Ideal) (Scalar.select (isz (iblk m c 0 t)) 0#32 (pre (iblk m c 0 t))) := by
  rw [outsAt0_C m c t h0 h1]
  frame_out
  rfl

theorem idx0 : ∀ t : Fin cfg0.N, win0_0.index t = ![0] :=
  (by decide +kernel : ∀ t : Fin grid0.N, _)
theorem idx1 : ∀ t : Fin cfg0.N, win0_1.index t = ![t.val, 0] :=
  (by decide +kernel : ∀ t : Fin grid0.N, _)
theorem idx2 : ∀ t : Fin cfg0.N, win0_2.index t = ![t.val, 0] :=
  (by decide +kernel : ∀ t : Fin grid0.N, _)

theorem iblk1 (c : Dev nD) (t : Fin cfg0.N) (y : S256x3200.Idx) :
    (iblk m c 1 t : S256x3200.Idx → EReal) y = m ((c : Thread nD τ).loc main_arg0) (((cfg0.win 2).blk t).view.emb y) := by
  blk_point [iblk, V, idx1 t, idx2 t]

theorem iblk0 (c : Dev nD) (t : Fin cfg0.N) (y : S16.Idx) :
    (iblk m c 0 t : S16.Idx → EReal) y = m ((c : Thread nD τ).loc main_arg1) y := by
  blk_point [iblk, V, idx0 t]

/-! ## The final arrays -/

/-- The greatest entry of the history. -/
abbrev H (c : Dev nD) : EReal := hmax fun k => (m ((c : Thread nD τ).loc main_arg1) : S16.Idx → EReal) (ix1 k)

theorem hist_iblk (c : Dev nD) (t : Fin cfg0.N) : (iblk m c 0 t : S16.Idx → EReal) = m ((c : Thread nD τ).loc main_arg1) :=
  funext fun y => iblk0 m c t y

/-- The codes. -/
theorem arr2 (c : Dev nD) : (dats m 0 c).arrAt 2 cfg0.N = fun i : S1792x3200.Idx =>
    clip 0xC3E00000#32 0x43E00000#32 ((m ((c : Thread nD τ).loc main_arg0) : S1792x3200.Idx → EReal) i)
      (kpow2 (Scalar.subi 0#32 (kexp (H m c) 0x3B124925#32))) := by
  refine (dats m 0 c).arrAt_eq_of_covers 2 _ (by decide +kernel) fun t hf y => ?_
  blk_simp
  rw [after0_2]
  refine (codes m c t y).trans ?_
  rw [iblk1 m c t y, hist_iblk]

/-- The new history. -/
theorem arr3 (c : Dev nD) : ∃ v : EReal, (∀ b, v ≤ b ↔ ∀ i, Scale.ab ((m ((c : Thread nD τ).loc main_arg0) : S1792x3200.Idx → EReal) i) ≤ b) ∧
    (dats m 0 c).arrAt 3 cfg0.N = Scale.shift (m ((c : Thread nD τ).loc main_arg1)) v := by
  refine ⟨k0_pay2 (F := Ideal) (outsAt0 m c t0_6.val t0_6.isLt).2.2.2, fun b => ?_, ?_⟩
  · rw [pay2_le, scr_le]
    refine ⟨fun h i => ?_, fun h => ⟨(Scale.ab_nonneg _).trans (h (ix2 ⟨0, by omega⟩ ⟨0, by omega⟩)), fun t _ y => ?_⟩⟩
    · obtain ⟨t, _, hi⟩ := Pipeline.Window.Covers.cover _ (by decide +kernel : (cfg0.win 2).Covers) (Memref.isWhole_whole _) i
      obtain ⟨y, hy⟩ := View.exists_emb_of_mem_set _ hi
      have ht : t.val < 7 := t.isLt
      have := h.2 t (by show t.val ≤ 6; omega) y
      rw [iblk1 m c t y] at this
      rwa [hy] at this
    · rw [iblk1 m c t y]
      exact h _
  · refine (dats m 0 c).arrAt_eq_of_after_last 3 t0_6 (by decide +kernel) _ fun j => ?_
    blk_simp
    rw [after0_3]
    refine (histC m c t0_6 (by show ¬6 % 7 = 0; omega) (by show 6 % 7 = 6; omega) j).trans ?_
    rw [hist_iblk]

/-- The scale. -/
theorem arr4 (c : Dev nD) : (dats m 0 c).arrAt 4 cfg0.N = fun _ : S1.Idx => kpow2 (kexp (H m c) 0x3B124925#32) := by
  refine (dats m 0 c).arrAt_eq_of_after_last 4 t0_6 (by decide +kernel) _ fun j => ?_
  blk_simp
  rw [after0_4]
  refine (scaleC m c t0_6 (by show ¬6 % 7 = 0; omega) (by show 6 % 7 = 6; omega) j).trans ?_
  rw [ex_eq, hist_iblk]
  rfl

end Cert.KWIdeal.Value
-- ==== Proof.WRef.lean ====
/-
  The weight quantiser against its reference, over the extended reals: the same codes, the same new history, the same scale.
-/
module

public import proofs.«01_k».proof.Defs
public import proofs.«01_k».proof.Proof.WValue
public import proofs.«01_k».proof.Proof.Gen.RWIdeal.Run

@[expose] public section

set_option maxRecDepth 16384

noncomputable section

namespace Cert.RWIdeal.Value

open Cert.RWIdeal Cert.RWIdeal.Gen Idealize.ShloMosaic Idealize.ShloMosaic.TcCoe Idealize.SL.Sem Idealize.ShloMosaic.StableHlo
open Cert.Scale (kpow2 kexp hmax clip rpow2 rexp)

variable (m : (ℓ : Loc nD τ sig) → Buf (Elt Ideal) ℓ)

/-- The maximum of the history, as the reference takes it. -/
abbrev top (c : Dev nD) : FVec Ideal ⟨0, ![]⟩ .f32 :=
  Host.reduce FloatOps.maximumf (m ((c.tc : Thread nD τ).loc main_arg1)) (constant S_ .f32 0xFF800000#32) reducesTo_S16_S_d0 h_S_

theorem top_eq (c : Dev nD) (j : (⟨0, ![]⟩ : Shape).Idx) :
    top m c j = hmax fun k => (m ((c.tc : Thread nD τ).loc main_arg1) : S16.Idx → EReal) (ix1 k) :=
  Scale.hmax_eq (φ := .f32) _ _ _ _ Scale.ofBits_neg_inf j

/-- The reference's codes. -/
theorem codes_eq (c : Dev nD) : res_main_v36 m c = fun i : S1792x3200.Idx =>
    clip 0xC3E00000#32 0x43E00000#32 ((m ((c.tc : Thread nD τ).loc main_arg0) : S1792x3200.Idx → EReal) i)
      (kpow2 (Scalar.subi 0#32 (kexp (hmax fun k => (m ((c.tc : Thread nD τ).loc main_arg1) : S16.Idx → EReal) (ix1 k)) 0x3B124925#32))) := by
  have e : res_main_v36 m c = Host.convertf .fp8e4m3 (minimumf (broadcastInDim S1792x3200 ![] bcast_S_S1792x3200 (id (constant S_ .f32 0x43E00000#32)))
      (maximumf (broadcastInDim S1792x3200 ![] bcast_S_S1792x3200 (id (constant S_ .f32 0xC3E00000#32)))
        (mulf (m ((c.tc : Thread nD τ).loc main_arg0)) (broadcastInDim S1792x3200 ![] bcast_S_S1792x3200
          (rpow2 (negi (rexp bcast_S_S254 natLt_1_32 reducesTo_S254_S_d0 h_S_ (top m c) 0x3B124925#32))))))) := rfl
  rw [e]
  funext i
  have h := fun j => Scale.rinv_eq bcast_S_S254 natLt_1_32 reducesTo_S254_S_d0 h_S_ (top m c) 0x3B124925#32 j
  simp only [top_eq] at h
  generalize rpow2 (negi (rexp bcast_S_S254 natLt_1_32 reducesTo_S254_S_d0 h_S_ (top m c) 0x3B124925#32)) = r at h ⊢
  rw [← h (fun a => a.elim0)]
  unfold clip
  have e2 : broadcastInDim S1792x3200 ![] bcast_S_S1792x3200 r i = r (fun a => a.elim0) := congrArg r (funext fun a => a.elim0)
  rw [← e2]
  rfl

/-- The reference's scale. -/
theorem scale_eq (c : Dev nD) : res_main_v42 m c = fun _ : S1.Idx =>
    kpow2 (kexp (hmax fun k => (m ((c.tc : Thread nD τ).loc main_arg1) : S16.Idx → EReal) (ix1 k)) 0x3B124925#32) := by
  have e : res_main_v42 m c = broadcastInDim S1 ![] bcast_S_S1 (rpow2 (rexp bcast_S_S254 natLt_1_32 reducesTo_S254_S_d0 h_S_ (top m c) 0x3B124925#32)) := rfl
  rw [e]
  funext i
  have h := fun j => Scale.rscale_eq bcast_S_S254 natLt_1_32 reducesTo_S254_S_d0 h_S_ (top m c) 0x3B124925#32 j
  simp only [top_eq] at h
  exact h _

/-- The reference's new history, of any weights and history. -/
theorem newHist_eq (x : FVec Ideal S1792x3200 .f32) (h : FVec Ideal S16 .f32) (v : EReal) (hv : ∀ b, v ≤ b ↔ ∀ i, Scale.ab (x i) ≤ b) :
    concatenate S16 0 [⟨S15, (extractStridedSlice S15 ![1] h slices_S16_S15_1)⟩,
      ⟨S1, (broadcastInDim S1 ![] bcast_S_S1 (Host.reduce FloatOps.maximumf (Host.absf x)
        (constant S_ .f32 0xFF800000#32) reducesTo_S1792x3200_S_d0_1 h_S_))⟩] concatenates_S15_S1_S16_d0
      = Scale.shift h v := by
  funext y
  refine Scale.shift_host _ _ v (fun i => ?_) slices_S16_S15_1 concatenates_S15_S1_S16_d0 y
  refine Scale.eq_of_bounds fun b => ?_
  refine Iff.trans ?_ (hv b).symm
  exact Scale.host_max_le (φ := .f32) _ _ reducesTo_S1792x3200_S_d0_1 h_S_ Scale.ofBits_neg_inf _ b

end Cert.RWIdeal.Value

namespace Cert.Proof

open Idealize.ShloMosaic Idealize.SL.Sem

theorem quiet_RW : Cert.quiescent_RWIdeal := fun m g _ =>
  (θ_run Cert.RWIdeal.defs _ _).mono (fun r h => ⟨fun c => ⟨(h c).2.2.2.1, (h c).2.2.2.2⟩, sem_eq_zero_of_no_sems (by decide) r.2⟩)
    (Cert.RWIdeal.Value.run m g)

theorem value_W : Cert.algebraic_KWIdeal_RWIdeal := by
  intro m g m' g' _ hm
  refine ⟨fun c => (Cert.KWIdeal.Gen.dats m 0 c).arrAt 2 _, fun c => (Cert.KWIdeal.Gen.dats m 0 c).arrAt 3 _, fun c => (Cert.KWIdeal.Gen.dats m 0 c).arrAt 4 _,
    Cert.KWIdeal.Value.run_blocks m g, ?_⟩
  refine (θ_run _ _ _).mono (fun r h c => ?_) (Cert.RWIdeal.Value.run m' g')
  obtain ⟨h1, h2, h3, h4, h5⟩ := h c
  obtain ⟨e0, e1⟩ := hm c
  refine ⟨h1.trans ?_, h2.trans ?_, h3.trans ?_, h4, h5⟩
  · refine (Cert.RWIdeal.Value.codes_eq m' c).trans ?_
    rw [e0, e1]
    exact (Cert.KWIdeal.Value.arr2 m c).symm
  · obtain ⟨v, hv, h⟩ := Cert.KWIdeal.Value.arr3 m c
    refine (Cert.RWIdeal.Value.newHist_eq (m' ((c.tc : Thread Cert.RWIdeal.nD Cert.RWIdeal.τ).loc Cert.RWIdeal.main_arg0)) (m' ((c.tc : Thread Cert.RWIdeal.nD Cert.RWIdeal.τ).loc Cert.RWIdeal.main_arg1)) v ?_).trans ?_
    · rw [e0]; exact hv
    · rw [e1]; exact h.symm
  · refine (Cert.RWIdeal.Value.scale_eq m' c).trans ?_
    rw [e1]
    exact (Cert.KWIdeal.Value.arr4 m c).symm

end Cert.Proof
-- ==== Proof.MHost.lean ====
/-
  What the main call's reference computes before its products: the three scales, their inverses, the two new histories.
-/
module
public import proofs.«01_k».proof.Proof.Gen.RMIdeal.Frame.Runs
public import proofs.«01_k».proof.Proof.Amax
public import Idealize.ShloMosaic.Lib.Pipeline.ValueKit
public import Idealize.ShloMosaic.Lib.StableHlo.ReadAt
public import Idealize.ShloMosaic.Lib.Claim
@[expose] public section
set_option maxRecDepth 16384
noncomputable section
open Idealize.ShloMosaic Idealize.ShloMosaic.TcCoe Idealize.SL.Sem Idealize.ShloMosaic.StableHlo
namespace Cert.RMIdeal.Value
open Cert.RMIdeal Cert.RMIdeal.Gen
open Cert.Scale (kpow2 kexp hmax rpow2 rexp)
variable (m : (ℓ : Loc nD τ sig) → Buf (Elt Ideal) ℓ)

/-- The maximum of a history, as the reference takes it. -/
abbrev top (h : FVec Ideal S16 .f32) : FVec Ideal ⟨0, ![]⟩ .f32 :=
  Host.reduce FloatOps.maximumf h (constant S_ .f32 0xFF800000#32) reducesTo_S16_S_d0 h_S_

/-- A scale as an array of one. -/
abbrev scl (h : FVec Ideal S16 .f32) (c : BitVec 32) : FVec Ideal S1 .f32 :=
  broadcastInDim S1 ![] bcast_S_S1 (rpow2 (rexp bcast_S_S254 natLt_1_32 reducesTo_S254_S_d0 h_S_ (top h) c))

/-- Its inverse. -/
abbrev inv (h : FVec Ideal S16 .f32) (c : BitVec 32) : FVec Ideal S1 .f32 :=
  broadcastInDim S1 ![] bcast_S_S1 (rpow2 (negi (rexp bcast_S_S254 natLt_1_32 reducesTo_S254_S_d0 h_S_ (top h) c)))

theorem scl_eq (h : FVec Ideal S16 .f32) (c : BitVec 32) : scl h c = fun _ : S1.Idx => kpow2 (kexp (hmax fun k => h (ix1 k)) c) := by
  funext i
  refine (Scale.rscale_eq bcast_S_S254 natLt_1_32 reducesTo_S254_S_d0 h_S_ (top h) c _).trans ?_
  exact congrArg (fun x => kpow2 (kexp x c)) (Scale.hmax_eq (φ := .f32) _ _ _ _ Scale.ofBits_neg_inf _)

theorem inv_eq (h : FVec Ideal S16 .f32) (c : BitVec 32) : inv h c = fun _ : S1.Idx => kpow2 (Scalar.subi 0#32 (kexp (hmax fun k => h (ix1 k)) c)) := by
  funext i
  refine (Scale.rinv_eq bcast_S_S254 natLt_1_32 reducesTo_S254_S_d0 h_S_ (top h) c _).trans ?_
  exact congrArg (fun x => kpow2 (Scalar.subi 0#32 (kexp x c))) (Scale.hmax_eq (φ := .f32) _ _ _ _ Scale.ofBits_neg_inf _)

/-! ## The host line in seven pieces: per history its exponent, then its scale and inverse; last the new histories -/

/-- The operations that compute the activations' exponent. -/
abbrev A1 : List (HloOp τ sig (Elt Ideal)) := hostOps0 ++ hostOps0_1 ++ hostOps0_2 ++ hostOps0_3
/-- The operations that compute the activations' scale and inverse. -/
abbrev B1 : List (HloOp τ sig (Elt Ideal)) := hostOps0_4 ++ hostOps0_5 ++ hostOps0_6 ++ hostOps0_7 ++ hostOps0_8 ++ hostOps0_9 ++ hostOps0_10 ++ hostOps0_11
/-- The operations that compute the weights' exponent. -/
abbrev A2 : List (HloOp τ sig (Elt Ideal)) := hostOps0_12 ++ hostOps0_13 ++ hostOps0_14 ++ hostOps0_15
/-- The operations that compute the weights' scale and inverse. -/
abbrev B2 : List (HloOp τ sig (Elt Ideal)) := hostOps0_16 ++ hostOps0_17 ++ hostOps0_18 ++ hostOps0_19 ++ hostOps0_20 ++ hostOps0_21 ++ hostOps0_22 ++ hostOps0_23
/-- The operations that compute the gradients' exponent. -/
abbrev A3 : List (HloOp τ sig (Elt Ideal)) := hostOps0_24 ++ hostOps0_25 ++ hostOps0_26 ++ hostOps0_27
/-- The operations that compute the gradients' scale and inverse. -/
abbrev B3 : List (HloOp τ sig (Elt Ideal)) := hostOps0_28 ++ hostOps0_29 ++ hostOps0_30 ++ hostOps0_31 ++ hostOps0_32 ++ hostOps0_33 ++ hostOps0_34 ++ hostOps0_35

abbrev Val0 : Type := Valuation τ sig (Elt Ideal)

/-- The contents after the first six pieces. -/
abbrev six (U : Val0) : Val0 := after B3 (after A3 (after B2 (after A2 (after B1 (after A1 U)))))

theorem append_runs (l₁ l₂ : List (HloOp τ sig (Elt Ideal))) (U : Val0) : after (l₁ ++ l₂) U = after l₂ (after l₁ U) := by
  induction l₁ generalizing U with
  | nil => rfl
  | cons op l ih => exact ih _

theorem V_split (c : Dev nD) : V m c = fun b : Ref sig .tc => after hostOps0_36 (six fun b => m (c, b)) (Proc.devRef .tc b) := by
  funext b
  unfold six A1 B1 A2 B2 A3 B3
  simp only [V, List.flatten_cons, List.flatten_nil, List.append_nil, append_runs]

/-! ### Each piece's results -/

theorem A1_exp (U : Val0) : after A1 U (Proc.devRef .tc main_v19)
    = rexp bcast_S_S254 natLt_1_32 reducesTo_S254_S_d0 h_S_ (top (U (Proc.devRef .tc main_arg3))) 0x3B124925#32 := by
  after_reads_simp
  rfl

theorem A2_exp (U : Val0) : after A2 U (Proc.devRef .tc main_v52)
    = rexp bcast_S_S254 natLt_1_32 reducesTo_S254_S_d0 h_S_ (top (U (Proc.devRef .tc main_arg4))) 0x3B124925#32 := by
  after_reads_simp
  rfl

theorem A3_exp (U : Val0) : after A3 U (Proc.devRef .tc main_v85)
    = rexp bcast_S_S254 natLt_1_32 reducesTo_S254_S_d0 h_S_ (top (U (Proc.devRef .tc main_arg5))) 0x37924925#32 := by
  after_reads_simp
  rfl

theorem B1_v25 (U : Val0) : after B1 U (Proc.devRef .tc main_v25) = rpow2 (U (Proc.devRef .tc main_v19)) := by
  after_reads_simp
  rfl

theorem B1_v32 (U : Val0) : after B1 U (Proc.devRef .tc main_v32) = rpow2 (negi (U (Proc.devRef .tc main_v19))) := by
  after_reads_simp
  rfl

theorem B2_v58 (U : Val0) : after B2 U (Proc.devRef .tc main_v58) = rpow2 (U (Proc.devRef .tc main_v52)) := by
  after_reads_simp
  rfl

theorem B3_v91 (U : Val0) : after B3 U (Proc.devRef .tc main_v91) = rpow2 (U (Proc.devRef .tc main_v85)) := by
  after_reads_simp
  rfl

theorem B3_v98 (U : Val0) : after B3 U (Proc.devRef .tc main_v98) = rpow2 (negi (U (Proc.devRef .tc main_v85))) := by
  after_reads_simp
  rfl

/-! ### What the later pieces leave alone -/

theorem keep_v25 (U : Val0) : after B3 (after A3 (after B2 (after A2 U))) (Proc.devRef .tc main_v25) = U (Proc.devRef .tc main_v25) := by
  after_reads_simp

theorem keep_v32 (U : Val0) : after B3 (after A3 (after B2 (after A2 U))) (Proc.devRef .tc main_v32) = U (Proc.devRef .tc main_v32) := by
  after_reads_simp

theorem keep_v58 (U : Val0) : after B3 (after A3 U) (Proc.devRef .tc main_v58) = U (Proc.devRef .tc main_v58) := by
  after_reads_simp

theorem keep_arg4 (U : Val0) : after B1 (after A1 U) (Proc.devRef .tc main_arg4) = U (Proc.devRef .tc main_arg4) := by
  after_reads_simp

theorem keep_arg5 (U : Val0) : after B2 (after A2 (after B1 (after A1 U))) (Proc.devRef .tc main_arg5) = U (Proc.devRef .tc main_arg5) := by
  after_reads_simp

theorem six_arg0 (U : Val0) : after B3 (after A3 (after B2 (after A2 (after B1 (after A1 U))))) (Proc.devRef .tc main_arg0) = U (Proc.devRef .tc main_arg0) := by
  after_reads_simp

theorem six_arg2 (U : Val0) : after B3 (after A3 (after B2 (after A2 (after B1 (after A1 U))))) (Proc.devRef .tc main_arg2) = U (Proc.devRef .tc main_arg2) := by
  after_reads_simp

theorem six_arg3 (U : Val0) : after B3 (after A3 (after B2 (after A2 (after B1 (after A1 U))))) (Proc.devRef .tc main_arg3) = U (Proc.devRef .tc main_arg3) := by
  after_reads_simp

theorem six_arg5 (U : Val0) : after B3 (after A3 (after B2 (after A2 (after B1 (after A1 U))))) (Proc.devRef .tc main_arg5) = U (Proc.devRef .tc main_arg5) := by
  after_reads_simp

/-! ### The region's operands -/

theorem last_v111 (U : Val0) : after hostOps0_36 U (Proc.devRef .tc main_v111) = broadcastInDim S1 ![] bcast_S_S1 (U (Proc.devRef .tc main_v25)) := by
  after_reads_simp

theorem V_v111 (c : Dev nD) : V m c main_v111 = scl (m ((c.tc : Thread nD τ).loc main_arg3)) 0x3B124925#32 := by
  rw [V_split]
  dsimp only [six]
  rw [last_v111, keep_v25, B1_v25, A1_exp]

theorem last_v112 (U : Val0) : after hostOps0_36 U (Proc.devRef .tc main_v112) = broadcastInDim S1 ![] bcast_S_S1 (U (Proc.devRef .tc main_v32)) := by
  after_reads_simp

theorem V_v112 (c : Dev nD) : V m c main_v112 = inv (m ((c.tc : Thread nD τ).loc main_arg3)) 0x3B124925#32 := by
  rw [V_split]
  dsimp only [six]
  rw [last_v112, keep_v32, B1_v32, A1_exp]

theorem last_v113 (U : Val0) : after hostOps0_36 U (Proc.devRef .tc main_v113) = broadcastInDim S1 ![] bcast_S_S1 (U (Proc.devRef .tc main_v58)) := by
  after_reads_simp

theorem V_v113 (c : Dev nD) : V m c main_v113 = scl (m ((c.tc : Thread nD τ).loc main_arg4)) 0x3B124925#32 := by
  rw [V_split]
  dsimp only [six]
  rw [last_v113, keep_v58, B2_v58, A2_exp, keep_arg4]

theorem last_v114 (U : Val0) : after hostOps0_36 U (Proc.devRef .tc main_v114) = broadcastInDim S1 ![] bcast_S_S1 (U (Proc.devRef .tc main_v91)) := by
  after_reads_simp

theorem V_v114 (c : Dev nD) : V m c main_v114 = scl (m ((c.tc : Thread nD τ).loc main_arg5)) 0x37924925#32 := by
  rw [V_split]
  dsimp only [six]
  rw [last_v114, B3_v91, A3_exp, keep_arg5]

theorem last_v115 (U : Val0) : after hostOps0_36 U (Proc.devRef .tc main_v115) = broadcastInDim S1 ![] bcast_S_S1 (U (Proc.devRef .tc main_v98)) := by
  after_reads_simp

theorem V_v115 (c : Dev nD) : V m c main_v115 = inv (m ((c.tc : Thread nD τ).loc main_arg5)) 0x37924925#32 := by
  rw [V_split]
  dsimp only [six]
  rw [last_v115, B3_v98, A3_exp, keep_arg5]

/-- A new history, as the reference makes it. -/
abbrev new_x (h : FVec Ideal S16 .f32) (x : FVec Ideal S6x1024x1792 .bf16) : FVec Ideal S16 .f32 :=
  concatenate S16 0 [⟨S15, (extractStridedSlice S15 ![1] h slices_S16_S15_1)⟩,
    ⟨S1, (broadcastInDim S1 ![] bcast_S_S1 (Host.reduce FloatOps.maximumf (Host.absf (extf .f32 x bitsLt_bf16_f32))
      (constant S_ .f32 0xFF800000#32) reducesTo_S6x1024x1792_S_d0_1_2 h_S_))⟩] concatenates_S15_S1_S16_d0

theorem last_v104 (U : Val0) : after hostOps0_36 U (Proc.devRef .tc main_v104) = new_x (U (Proc.devRef .tc main_arg3)) (U (Proc.devRef .tc main_arg0)) := by
  after_reads_simp
  have e1 : upto hostOps0_36 U 6 (Proc.devRef .tc main_v102) = extractStridedSlice S15 ![1] (U (Proc.devRef .tc main_arg3)) slices_S16_S15_1 := by
    after_reads_simp
  have e2 : upto hostOps0_36 U 6 (Proc.devRef .tc main_v103) = broadcastInDim S1 ![] bcast_S_S1 (Host.reduce FloatOps.maximumf (Host.absf (extf (F := Ideal) .f32 (U (Proc.devRef .tc main_arg0)) bitsLt_bf16_f32))
      (constant S_ .f32 0xFF800000#32) reducesTo_S6x1024x1792_S_d0_1_2 h_S_) := by
    after_reads_simp
  rw [e1, e2]

theorem V_v104 (c : Dev nD) : V m c main_v104 = new_x (m ((c.tc : Thread nD τ).loc main_arg3)) (m ((c.tc : Thread nD τ).loc main_arg0)) := by
  rw [V_split]
  dsimp only [six]
  rw [last_v104, six_arg3, six_arg0]

/-- It is the history moved down by one, the greatest absolute value last. -/
theorem new_x_eq (h : FVec Ideal S16 .f32) (x : FVec Ideal S6x1024x1792 .bf16) (v : EReal) (hv : ∀ b, v ≤ b ↔ ∀ i, Scale.ab (x i) ≤ b) :
    new_x h x = Scale.shift h v := by
  funext y
  refine Scale.shift_host _ _ v (fun i => ?_) slices_S16_S15_1 concatenates_S15_S1_S16_d0 y
  refine Scale.eq_of_bounds fun b => ?_
  refine Iff.trans ?_ (hv b).symm
  exact Scale.host_max_le (φ := .f32) _ _ reducesTo_S6x1024x1792_S_d0_1_2 h_S_ Scale.ofBits_neg_inf _ b

/-- A new history, as the reference makes it. -/
abbrev new_dy (h : FVec Ideal S16 .f32) (x : FVec Ideal S6x1024x3200 .bf16) : FVec Ideal S16 .f32 :=
  concatenate S16 0 [⟨S15, (extractStridedSlice S15 ![1] h slices_S16_S15_1)⟩,
    ⟨S1, (broadcastInDim S1 ![] bcast_S_S1 (Host.reduce FloatOps.maximumf (Host.absf (extf .f32 x bitsLt_bf16_f32))
      (constant S_ .f32 0xFF800000#32) reducesTo_S6x1024x3200_S_d0_1_2 h_S_))⟩] concatenates_S15_S1_S16_d0

theorem last_v110 (U : Val0) : after hostOps0_36 U (Proc.devRef .tc main_v110) = new_dy (U (Proc.devRef .tc main_arg5)) (U (Proc.devRef .tc main_arg2)) := by
  after_reads_simp
  have e1 : upto hostOps0_36 U 13 (Proc.devRef .tc main_v108) = extractStridedSlice S15 ![1] (U (Proc.devRef .tc main_arg5)) slices_S16_S15_1 := by
    after_reads_simp
  have e2 : upto hostOps0_36 U 13 (Proc.devRef .tc main_v109) = broadcastInDim S1 ![] bcast_S_S1 (Host.reduce FloatOps.maximumf (Host.absf (extf (F := Ideal) .f32 (U (Proc.devRef .tc main_arg2)) bitsLt_bf16_f32))
      (constant S_ .f32 0xFF800000#32) reducesTo_S6x1024x3200_S_d0_1_2 h_S_) := by
    after_reads_simp
  rw [e1, e2]

theorem V_v110 (c : Dev nD) : V m c main_v110 = new_dy (m ((c.tc : Thread nD τ).loc main_arg5)) (m ((c.tc : Thread nD τ).loc main_arg2)) := by
  rw [V_split]
  dsimp only [six]
  rw [last_v110, six_arg5, six_arg2]

/-- It is the history moved down by one, the greatest absolute value last. -/
theorem new_dy_eq (h : FVec Ideal S16 .f32) (x : FVec Ideal S6x1024x3200 .bf16) (v : EReal) (hv : ∀ b, v ≤ b ↔ ∀ i, Scale.ab (x i) ≤ b) :
    new_dy h x = Scale.shift h v := by
  funext y
  refine Scale.shift_host _ _ v (fun i => ?_) slices_S16_S15_1 concatenates_S15_S1_S16_d0 y
  refine Scale.eq_of_bounds fun b => ?_
  refine Iff.trans ?_ (hv b).symm
  exact Scale.host_max_le (φ := .f32) _ _ reducesTo_S6x1024x3200_S_d0_1_2 h_S_ Scale.ofBits_neg_inf _ b

end Cert.RMIdeal.Value
-- ==== Proof.MSum.lean ====
/-
  The main call's products as sums, over the extended reals: `y`, `dx` and `dw` as functions of the two arrays of codes, the
  weights' codes and a product of two scales. Both programs' results are brought to these.
-/
module
public import Idealize.ShloMosaic.Lib.Pipeline.ValueKit
@[expose] public section
noncomputable section
open Idealize.ShloMosaic
namespace Cert.Sum

/-- Entry `k` of token `n`, of all sequences' tokens in order. -/
abbrev row {K : ℕ} (x : (⟨3, ![6, 1024, K]⟩ : Shape).Idx → EReal) (n : ℕ) (hn : n < 6144) (k : Fin K) : EReal :=
  x (ix3 ⟨n / 1024, by omega⟩ ⟨n % 1024, by omega⟩ k)

/-- `y`: tokens in groups of eight. -/
def y (xc : (⟨3, ![6, 1024, 1792]⟩ : Shape).Idx → EReal) (w : (⟨2, ![1792, 3200]⟩ : Shape).Idx → EReal) (s : EReal)
    (a : Fin 768) (b : Fin 8) (d : Fin 3200) : EReal :=
  (∑ k : Fin 1792, row xc (a.val * 8 + b.val) (by omega) k * w (ix2 k d)) * s

/-- `dx`: tokens in groups of eight. -/
def dx (dyc : (⟨3, ![6, 1024, 3200]⟩ : Shape).Idx → EReal) (w : (⟨2, ![1792, 3200]⟩ : Shape).Idx → EReal) (s : EReal)
    (a : Fin 768) (b : Fin 8) (d : Fin 1792) : EReal :=
  (∑ k : Fin 3200, row dyc (a.val * 8 + b.val) (by omega) k * w (ix2 d k)) * s

/-- `dw`: over all tokens. -/
def dw (xc : (⟨3, ![6, 1024, 1792]⟩ : Shape).Idx → EReal) (dyc : (⟨3, ![6, 1024, 3200]⟩ : Shape).Idx → EReal) (s : EReal)
    (a : Fin 1792) (b : Fin 3200) : EReal :=
  (∑ n : Fin 6144, row xc n.val n.isLt a * row dyc n.val n.isLt b) * s

end Cert.Sum
-- ==== Proof.MRefPt.lean ====
/-
  What the main call's reference leaves, over the extended reals: its nine results as functions of its arguments.
-/
module
public import proofs.«01_k».proof.Proof.Gen.RMIdeal.Value
public import proofs.«01_k».proof.Proof.MHost
public import proofs.«01_k».proof.Proof.MSum
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.RMIdeal.Value
open Cert.RMIdeal Cert.RMIdeal.Gen
open Cert.Scale (kpow2 kexp hmax clip)
variable (m : (ℓ : Loc nD τ sig) → Buf (Elt Ideal) ℓ)

abbrev ax (c : Dev nD) : S6x1024x1792.Idx → EReal := m ((c : Thread nD τ).loc main_arg0)
abbrev aw (c : Dev nD) : S1792x3200.Idx → EReal := m ((c : Thread nD τ).loc main_arg1)
abbrev ady (c : Dev nD) : S6x1024x3200.Idx → EReal := m ((c : Thread nD τ).loc main_arg2)
abbrev hx (c : Dev nD) : S16.Idx → EReal := m ((c : Thread nD τ).loc main_arg3)
abbrev hw (c : Dev nD) : S16.Idx → EReal := m ((c : Thread nD τ).loc main_arg4)
abbrev hdy (c : Dev nD) : S16.Idx → EReal := m ((c : Thread nD τ).loc main_arg5)

/-- The three exponents. -/
abbrev ex (c : Dev nD) : BitVec 32 := kexp (hmax fun k => hx m c (ix1 k)) 0x3B124925#32
abbrev ew (c : Dev nD) : BitVec 32 := kexp (hmax fun k => hw m c (ix1 k)) 0x3B124925#32
abbrev edy (c : Dev nD) : BitVec 32 := kexp (hmax fun k => hdy m c (ix1 k)) 0x37924925#32

/-- The codes. -/
abbrev cx (c : Dev nD) : S6x1024x1792.Idx → EReal := fun i => clip 0xC3E00000#32 0x43E00000#32 (ax m c i) (kpow2 (Scalar.subi 0#32 (ex m c)))
abbrev cdy (c : Dev nD) : S6x1024x3200.Idx → EReal := fun i => clip 0xC7600000#32 0x47600000#32 (ady m c i) (kpow2 (Scalar.subi 0#32 (edy m c)))

/-! ## The payloads at an index -/

theorem pay3_apply (x : S6x1024x1792.Idx → EReal) (r : EReal) (i : S6x1024x1792.Idx) :
    k0_pay3 (F := Ideal) x r i = clip 0xC3E00000#32 0x43E00000#32 (x i) r := rfl
theorem pay4_apply (x : S6x1024x3200.Idx → EReal) (r : EReal) (i : S6x1024x3200.Idx) :
    k0_pay4 (F := Ideal) x r i = clip 0xC7600000#32 0x47600000#32 (x i) r := rfl
theorem pay5_apply (x : S6x1024x1792.Idx → EReal) (r : EReal) (n : Fin 6144) (k : Fin 1792) :
    k0_pay5 (F := Ideal) x r (ix2 n k) = Sum.row (k0_pay3 (F := Ideal) x r) n.val n.isLt k := by
  unfold k0_pay5 Sum.row
  generalize k0_pay3 (F := Ideal) x r = u
  pointwise
theorem pay6_apply (x : S6x1024x3200.Idx → EReal) (r : EReal) (n : Fin 6144) (k : Fin 3200) :
    k0_pay6 (F := Ideal) x r (ix2 n k) = Sum.row (k0_pay4 (F := Ideal) x r) n.val n.isLt k := by
  unfold k0_pay6 Sum.row
  generalize k0_pay4 (F := Ideal) x r = u
  pointwise

theorem pay7_apply (s u : EReal) (x : S6x1024x1792.Idx → EReal) (r : EReal) (w : S1792x3200.Idx → EReal) (a : Fin 768) (b : Fin 8) (d : Fin 3200) :
    k0_pay7 (F := Ideal) s u x r w (ix3 a b d)
      = (∑ k : Fin 1792, k0_pay5 (F := Ideal) x r (ix2 ⟨a.val * 8 + b.val, by omega⟩ k) * w (ix2 k d)) * (s * u) := by
  unfold k0_pay7
  generalize k0_pay5 (F := Ideal) x r = v
  pointwise

theorem pay1_apply (s u : EReal) (w : S1792x3200.Idx → EReal) (v : S6144x3200.Idx → EReal) (a : Fin 768) (b : Fin 8) (d : Fin 1792) :
    k0_pay1 (F := Ideal) s u w v (ix3 a b d)
      = (∑ k : Fin 3200, v (ix2 ⟨a.val * 8 + b.val, by omega⟩ k) * w (ix2 d k)) * (u * s) := by
  pointwise [k0_pay1]

theorem pay2_apply (s u : EReal) (v : S6144x1792.Idx → EReal) (g : S6144x3200.Idx → EReal) (a : Fin 1792) (b : Fin 3200) :
    k0_pay2 (F := Ideal) s u v g (ix2 a b) = (∑ n : Fin 6144, v (ix2 n a) * g (ix2 n b)) * (s * u) := by
  pointwise [k0_pay2]

/-! ## The one point -/

/-- The read of an array of one. -/
abbrev rd (x : S1.Idx → EReal) : EReal :=
  View.ld (Val := Elt Ideal) (e' := .f32) x (Rect.unit (s := S1) ![0] S1.size inb_S1_S1_0) (Shape.Idx.first (numel1_S1.symm ▸ Nat.one_pos))

section body
variable (c : Dev nD) (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S6x1024x1792 .bf16) (harg5 : arg5.IsWhole) (arg6 : Memref sig .tc .vmem S1792x3200 .fp8e4m3) (harg6 : arg6.IsWhole) (arg7 : Memref sig .tc .vmem S6x1024x3200 .bf16) (harg7 : arg7.IsWhole) (arg8 : Memref sig .tc .vmem S768x8x3200 .bf16) (harg8 : arg8.IsWhole) (arg9 : Memref sig .tc .vmem S768x8x1792 .bf16) (harg9 : arg9.IsWhole) (arg10 : Memref sig .tc .vmem S1792x3200 .f32) (harg10 : arg10.IsWhole) (arg11 : Memref sig .tc .vmem S6x1024x1792 .fp8e4m3) (harg11 : arg11.IsWhole) (arg12 : Memref sig .tc .vmem S6x1024x3200 .fp8e5m2) (harg12 : arg12.IsWhole)
  (x0 : Vec Ideal S1 .f32) (x1 : Vec Ideal S1 .f32) (x2 : Vec Ideal S1 .f32) (x3 : Vec Ideal S1 .f32) (x4 : Vec Ideal S1 .f32) (x5 : Vec Ideal S6x1024x1792 .bf16) (x6 : Vec Ideal S1792x3200 .fp8e4m3) (x7 : Vec Ideal S6x1024x3200 .bf16)

theorem y_body : out0_A_8 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 = k0_pay7 (F := Ideal) (rd x0) (rd x2) x5 (rd x1) x6 := by
  frame_out
  try rfl

theorem dx_body : out0_A_9 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 = k0_pay1 (F := Ideal) (rd x2) (rd x3) x6 (k0_pay6 (F := Ideal) x7 (rd x4)) := by
  frame_out
  try rfl

theorem dw_body : out0_A_10 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 = k0_pay2 (F := Ideal) (rd x0) (rd x3) (k0_pay5 (F := Ideal) x5 (rd x1)) (k0_pay6 (F := Ideal) x7 (rd x4)) := by
  frame_out
  try rfl

theorem xcodes_body : out0_A_11 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 = k0_pay3 (F := Ideal) x5 (rd x1) := by
  frame_out
  try rfl

theorem dycodes_body : out0_A_12 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 = k0_pay4 (F := Ideal) x7 (rd x4) := by
  frame_out
  try rfl

end body

theorem y_out (c : Dev nD) (t : Fin cfg0.N) : (outsAt0 m c t).1 = k0_pay7 (F := Ideal) (rd (iblk m c 0 t)) (rd (iblk m c 2 t)) (iblk m c 5 t) (rd (iblk m c 1 t)) (iblk m c 6 t) := by
  dsimp only [outsAt0]
  exact y_body c _ _ _ _ _ _ _ _ _ _ _ _ _ _ _ _ _ _ _ _ _ _ _ _ _ _ _ _ _ _ _ _ _ _

theorem dx_out (c : Dev nD) (t : Fin cfg0.N) : (outsAt0 m c t).2.1 = k0_pay1 (F := Ideal) (rd (iblk m c 2 t)) (rd (iblk m c 3 t)) (iblk m c 6 t) (k0_pay6 (F := Ideal) (iblk m c 7 t) (rd (iblk m c 4 t))) := by
  dsimp only [outsAt0]
  exact dx_body c _ _ _ _ _ _ _ _ _ _ _ _ _ _ _ _ _ _ _ _ _ _ _ _ _ _ _ _ _ _ _ _ _ _

theorem dw_out (c : Dev nD) (t : Fin cfg0.N) : (outsAt0 m c t).2.2.1 = k0_pay2 (F := Ideal) (rd (iblk m c 0 t)) (rd (iblk m c 3 t)) (k0_pay5 (F := Ideal) (iblk m c 5 t) (rd (iblk m c 1 t))) (k0_pay6 (F := Ideal) (iblk m c 7 t) (rd (iblk m c 4 t))) := by
  dsimp only [outsAt0]
  exact dw_body c _ _ _ _ _ _ _ _ _ _ _ _ _ _ _ _ _ _ _ _ _ _ _ _ _ _ _ _ _ _ _ _ _ _

theorem xcodes_out (c : Dev nD) (t : Fin cfg0.N) : (outsAt0 m c t).2.2.2.1 = k0_pay3 (F := Ideal) (iblk m c 5 t) (rd (iblk m c 1 t)) := by
  dsimp only [outsAt0]
  exact xcodes_body c _ _ _ _ _ _ _ _ _ _ _ _ _ _ _ _ _ _ _ _ _ _ _ _ _ _ _ _ _ _ _ _ _ _

theorem dycodes_out (c : Dev nD) (t : Fin cfg0.N) : (outsAt0 m c t).2.2.2.2 = k0_pay4 (F := Ideal) (iblk m c 7 t) (rd (iblk m c 4 t)) := by
  dsimp only [outsAt0]
  exact dycodes_body c _ _ _ _ _ _ _ _ _ _ _ _ _ _ _ _ _ _ _ _ _ _ _ _ _ _ _ _ _ _ _ _ _ _

end Cert.RMIdeal.Value
-- ==== Proof.MRefVal.lean ====
/-
  What the main call's reference leaves, over the extended reals: its nine results as functions of its arguments.
-/
module
public import proofs.«01_k».proof.Proof.MRefPt
@[expose] public section
set_option maxRecDepth 16384
noncomputable section
open Idealize.ShloMosaic Idealize.ShloMosaic.TcCoe Idealize.SL.Sem
open Idealize.ShloMosaic.Pipeline (Dat)
namespace Cert.RMIdeal.Value
open Cert.RMIdeal Cert.RMIdeal.Gen
open Cert.Scale (kpow2 kexp hmax clip)
variable (m : (ℓ : Loc nD τ sig) → Buf (Elt Ideal) ℓ)

/-! ## The whole arrays the one point reads -/

theorem idx5 : ∀ t : Fin cfg0.N, win0_5.index t = ![0, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0, 0] := (by decide +kernel : ∀ t : Fin grid0.N, _)

/-- An array that is the same everywhere reads as that. -/
theorem rd_const (v : EReal) : rd (fun _ => v) = v := rfl

theorem rd0 (c : Dev nD) (t : Fin cfg0.N) : rd (iblk m c 0 t) = kpow2 (ex m c) :=
  congrFun ((V_v111 m c).trans (scl_eq _ _)) _
theorem rd1 (c : Dev nD) (t : Fin cfg0.N) : rd (iblk m c 1 t) = kpow2 (Scalar.subi 0#32 (ex m c)) :=
  congrFun ((V_v112 m c).trans (inv_eq _ _)) _
theorem rd2 (c : Dev nD) (t : Fin cfg0.N) : rd (iblk m c 2 t) = kpow2 (ew m c) :=
  congrFun ((V_v113 m c).trans (scl_eq _ _)) _
theorem rd3 (c : Dev nD) (t : Fin cfg0.N) : rd (iblk m c 3 t) = kpow2 (edy m c) :=
  congrFun ((V_v114 m c).trans (scl_eq _ _)) _
theorem rd4 (c : Dev nD) (t : Fin cfg0.N) : rd (iblk m c 4 t) = kpow2 (Scalar.subi 0#32 (edy m c)) :=
  congrFun ((V_v115 m c).trans (inv_eq _ _)) _

theorem iblk5 (c : Dev nD) (t : Fin cfg0.N) : (iblk m c 5 t : S6x1024x1792.Idx → EReal) = ax m c := by
  funext y
  refine (congrFun (V_main_arg0 m c) (((cfg0.win 5).blk t).view.emb y)).trans ?_
  show m ((c : Thread nD τ).loc main_arg0) (((cfg0.win 5).blk t).view.emb y) = m ((c : Thread nD τ).loc main_arg0) y
  blk_point [idx5 t]
theorem iblk6 (c : Dev nD) (t : Fin cfg0.N) : (iblk m c 6 t : S1792x3200.Idx → EReal) = aw m c := by
  funext y
  refine (congrFun (V_main_arg1 m c) (((cfg0.win 6).blk t).view.emb y)).trans ?_
  show m ((c : Thread nD τ).loc main_arg1) (((cfg0.win 6).blk t).view.emb y) = m ((c : Thread nD τ).loc main_arg1) y
  blk_point [idx6 t]
theorem iblk7 (c : Dev nD) (t : Fin cfg0.N) : (iblk m c 7 t : S6x1024x3200.Idx → EReal) = ady m c := by
  funext y
  refine (congrFun (V_main_arg2 m c) (((cfg0.win 7).blk t).view.emb y)).trans ?_
  show m ((c : Thread nD τ).loc main_arg2) (((cfg0.win 7).blk t).view.emb y) = m ((c : Thread nD τ).loc main_arg2) y
  blk_point [idx7 t]

/-! ## The codes -/

theorem cx_eq (c : Dev nD) (t : Fin cfg0.N) : k0_pay3 (F := Ideal) (iblk m c 5 t) (rd (iblk m c 1 t)) = cx m c := by
  rw [rd1, iblk5]
  exact funext fun i => pay3_apply _ _ i
theorem cdy_eq (c : Dev nD) (t : Fin cfg0.N) : k0_pay4 (F := Ideal) (iblk m c 7 t) (rd (iblk m c 4 t)) = cdy m c := by
  rw [rd4, iblk7]
  exact funext fun i => pay4_apply _ _ i

/-! ## The products at an index -/

theorem y_at (c : Dev nD) (t : Fin cfg0.N) (a : Fin 768) (b : Fin 8) (d : Fin 3200) :
    k0_pay7 (F := Ideal) (rd (iblk m c 0 t)) (rd (iblk m c 2 t)) (iblk m c 5 t) (rd (iblk m c 1 t)) (iblk m c 6 t) (ix3 a b d)
      = Sum.y (cx m c) (aw m c) (kpow2 (ex m c) * kpow2 (ew m c)) a b d := by
  rw [pay7_apply, rd0, rd2, iblk6]
  unfold Sum.y
  have e : ∀ k, k0_pay5 (F := Ideal) (iblk m c 5 t) (rd (iblk m c 1 t)) (ix2 ⟨a.val * 8 + b.val, by omega⟩ k)
      = Sum.row (cx m c) (a.val * 8 + b.val) (by omega) k := fun k => by rw [pay5_apply, cx_eq]
  simp only [e]
theorem dx_at (c : Dev nD) (t : Fin cfg0.N) (a : Fin 768) (b : Fin 8) (d : Fin 1792) :
    k0_pay1 (F := Ideal) (rd (iblk m c 2 t)) (rd (iblk m c 3 t)) (iblk m c 6 t) (k0_pay6 (F := Ideal) (iblk m c 7 t) (rd (iblk m c 4 t))) (ix3 a b d)
      = Sum.dx (cdy m c) (aw m c) (kpow2 (edy m c) * kpow2 (ew m c)) a b d := by
  rw [pay1_apply, rd2, rd3, iblk6]
  unfold Sum.dx
  have e : ∀ k, k0_pay6 (F := Ideal) (iblk m c 7 t) (rd (iblk m c 4 t)) (ix2 ⟨a.val * 8 + b.val, by omega⟩ k)
      = Sum.row (cdy m c) (a.val * 8 + b.val) (by omega) k := fun k => by rw [pay6_apply, cdy_eq]
  simp only [e]
theorem dw_at (c : Dev nD) (t : Fin cfg0.N) (a : Fin 1792) (b : Fin 3200) :
    k0_pay2 (F := Ideal) (rd (iblk m c 0 t)) (rd (iblk m c 3 t)) (k0_pay5 (F := Ideal) (iblk m c 5 t) (rd (iblk m c 1 t)))
        (k0_pay6 (F := Ideal) (iblk m c 7 t) (rd (iblk m c 4 t))) (ix2 a b)
      = Sum.dw (cx m c) (cdy m c) (kpow2 (ex m c) * kpow2 (edy m c)) a b := by
  rw [pay2_apply, rd0, rd3]
  unfold Sum.dw
  simp only [pay5_apply, pay6_apply, cx_eq, cdy_eq]

theorem y_pt (c : Dev nD) (t : Fin cfg0.N) (j : S768x8x3200.Idx) :
    k0_pay7 (F := Ideal) (rd (iblk m c 0 t)) (rd (iblk m c 2 t)) (iblk m c 5 t) (rd (iblk m c 1 t)) (iblk m c 6 t) j
      = Sum.y (cx m c) (aw m c) (kpow2 (ex m c) * kpow2 (ew m c)) (j 0) (j 1) (j 2) := by
  obtain ⟨a, b, d, rfl⟩ : ∃ a b d, j = ix3 a b d := ⟨j 0, j 1, j 2, eq_ix3 j⟩
  exact y_at m c t a b d
theorem dx_pt (c : Dev nD) (t : Fin cfg0.N) (j : S768x8x1792.Idx) :
    k0_pay1 (F := Ideal) (rd (iblk m c 2 t)) (rd (iblk m c 3 t)) (iblk m c 6 t) (k0_pay6 (F := Ideal) (iblk m c 7 t) (rd (iblk m c 4 t))) j
      = Sum.dx (cdy m c) (aw m c) (kpow2 (edy m c) * kpow2 (ew m c)) (j 0) (j 1) (j 2) := by
  obtain ⟨a, b, d, rfl⟩ : ∃ a b d, j = ix3 a b d := ⟨j 0, j 1, j 2, eq_ix3 j⟩
  exact dx_at m c t a b d
theorem dw_pt (c : Dev nD) (t : Fin cfg0.N) (j : S1792x3200.Idx) :
    k0_pay2 (F := Ideal) (rd (iblk m c 0 t)) (rd (iblk m c 3 t)) (k0_pay5 (F := Ideal) (iblk m c 5 t) (rd (iblk m c 1 t)))
        (k0_pay6 (F := Ideal) (iblk m c 7 t) (rd (iblk m c 4 t))) j
      = Sum.dw (cx m c) (cdy m c) (kpow2 (ex m c) * kpow2 (edy m c)) (j 0) (j 1) := by
  obtain ⟨a, b, rfl⟩ : ∃ a b, j = ix2 a b := ⟨j 0, j 1, eq_ix2 j⟩
  exact dw_at m c t a b

/-! ## The results -/

/-- `y`. -/
theorem arr8 (c : Dev nD) : (dats m 0 c).arrAt 8 cfg0.N = fun i : S768x8x3200.Idx =>
    Sum.y (cx m c) (aw m c) (kpow2 (ex m c) * kpow2 (ew m c)) (i 0) (i 1) (i 2) := by
  refine (dats m 0 c).arrAt_eq_of_after_last 8 t0_0 (by decide +kernel) _ fun j => ?_
  blk_simp
  rw [after0_8, y_out]
  exact y_pt m c t0_0 j

/-- `dx`. -/
theorem arr9 (c : Dev nD) : (dats m 0 c).arrAt 9 cfg0.N = fun i : S768x8x1792.Idx =>
    Sum.dx (cdy m c) (aw m c) (kpow2 (edy m c) * kpow2 (ew m c)) (i 0) (i 1) (i 2) := by
  refine (dats m 0 c).arrAt_eq_of_after_last 9 t0_0 (by decide +kernel) _ fun j => ?_
  blk_simp
  rw [after0_9, dx_out]
  exact dx_pt m c t0_0 j

/-- `dw`. -/
theorem arr10 (c : Dev nD) : (dats m 0 c).arrAt 10 cfg0.N = fun i : S1792x3200.Idx =>
    Sum.dw (cx m c) (cdy m c) (kpow2 (ex m c) * kpow2 (edy m c)) (i 0) (i 1) := by
  refine (dats m 0 c).arrAt_eq_of_after_last 10 t0_0 (by decide +kernel) _ fun j => ?_
  blk_simp
  rw [after0_10, dw_out]
  exact dw_pt m c t0_0 j

/-- The activations' codes. -/
theorem arr11 (c : Dev nD) : (dats m 0 c).arrAt 11 cfg0.N = cx m c := by
  refine (dats m 0 c).arrAt_eq_of_after_last 11 t0_0 (by decide +kernel) _ fun j => ?_
  blk_simp
  rw [after0_11, xcodes_out, cx_eq]

/-- The gradients' codes. -/
theorem arr12 (c : Dev nD) : (dats m 0 c).arrAt 12 cfg0.N = cdy m c := by
  refine (dats m 0 c).arrAt_eq_of_after_last 12 t0_0 (by decide +kernel) _ fun j => ?_
  blk_simp
  rw [after0_12, dycodes_out, cdy_eq]

/-! ## The run -/

/-- The reference's run: its nine results, the arguments unchanged. -/
theorem run_all (ρ : Dev nD → PrngReg) : θ_run defs (onTc (τ := τ) (main (F := Ideal))) ⟨m, fun _ => 0, ρ⟩ fun r => ∀ c : Dev nD,
      r.2.mem ((c : Thread nD τ).loc main_v116_0) = (dats m 0 c).arrAt 8 cfg0.N
      ∧ r.2.mem ((c : Thread nD τ).loc main_v116_1) = (dats m 0 c).arrAt 9 cfg0.N
      ∧ r.2.mem ((c : Thread nD τ).loc main_v116_2) = (dats m 0 c).arrAt 10 cfg0.N
      ∧ r.2.mem ((c : Thread nD τ).loc main_v116_3) = (dats m 0 c).arrAt 11 cfg0.N
      ∧ r.2.mem ((c : Thread nD τ).loc main_v116_4) = (dats m 0 c).arrAt 12 cfg0.N
      ∧ r.2.mem ((c : Thread nD τ).loc main_v104) = new_x (m ((c : Thread nD τ).loc main_arg3)) (m ((c : Thread nD τ).loc main_arg0))
      ∧ r.2.mem ((c : Thread nD τ).loc main_v110) = new_dy (m ((c : Thread nD τ).loc main_arg5)) (m ((c : Thread nD τ).loc main_arg2))
      ∧ r.2.mem ((c : Thread nD τ).loc main_v111) = (fun _ : S1.Idx => kpow2 (ex m c))
      ∧ r.2.mem ((c : Thread nD τ).loc main_v114) = (fun _ : S1.Idx => kpow2 (edy m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post8 m r h c, post9 m r h c, post10 m r h c, post11 m r h c, post12 m r h c,
      ((h c).2 main_v104 (Pipeline.mem_restRefs_of main_v104 (by decide) (by decide))).trans (V_v104 m c),
      ((h c).2 main_v110 (Pipeline.mem_restRefs_of main_v110 (by decide) (by decide))).trans (V_v110 m c),
      ((h c).1 0).trans (((dats m 0 c).arrAt_in 0 rfl _).trans ((A_eq m c 0).trans ((V_v111 m c).trans (scl_eq _ _)))),
      ((h c).1 3).trans (((dats m 0 c).arrAt_in 3 rfl _).trans ((A_eq m c 3).trans ((V_v114 m c).trans (scl_eq _ _)))),
      kept_main_arg0 m r h c, kept_main_arg1 m r h c, kept_main_arg2 m r h c, kept_main_arg3 m r h c, kept_main_arg4 m r h c, kept_main_arg5 m r h c⟩)
    (run_main m ρ)

end Cert.RMIdeal.Value
-- ==== Proof.MExp.lean ====
/-
  The exponents of the main call's three scales: the words the body bisects by, and that they spell the exponent of `Scale`.
-/
module
public import proofs.«01_k».proof.Proof.Gen.KMIdeal.Value
public import proofs.«01_k».proof.Proof.Amax
@[expose] public section
set_option maxRecDepth 16384
noncomputable section
open Idealize.ShloMosaic Idealize.ShloMosaic.TcCoe Idealize.SL.Sem
namespace Cert.KMIdeal.Value
open Cert.KMIdeal Cert.KMIdeal.Gen
open Cert.Scale (kexp hmax ld_hist kstep kfield kfrexp)

/-- One scalar read of a history. -/
abbrev rd (x : S16.Idx → EReal) (k : ℕ) (h : ∀ a, (![k] : Fin 1 → ℕ) a + S1.size a ≤ S16.size a) : EReal :=
  View.ld (Val := Elt Ideal) (e' := .f32) x (Rect.unit (s := S16) ![k] S1.size h) (Shape.Idx.first (numel1_S1.symm ▸ Nat.one_pos))

theorem rd_eq (x : S16.Idx → EReal) (k : ℕ) (hk : k < 16) (h : ∀ a, (![k] : Fin 1 → ℕ) a + S1.size a ≤ S16.size a) :
    rd x k h = x (ix1 ⟨k, hk⟩) := ld_hist (Val := Elt Ideal) (e := .f32) x k hk h _

/-- The first trial field. -/
abbrev f1 : BitVec 32 := Scalar.addi 0#32 128#32

/-- Its word. -/
abbrev s1 : BitVec 32 := Scalar.shli f1 23#32

/-! ## The activations' scale -/

namespace X

/-- The greatest of the sixteen scalar reads, as the body computes it. -/
def hist (x : S16.Idx → EReal) : EReal :=
  k0_pay6 (F := Ideal) (rd x 0 inb_S16_S1_0) (rd x 1 inb_S16_S1_1) (rd x 2 inb_S16_S1_2) (rd x 3 inb_S16_S1_3) (rd x 4 inb_S16_S1_4) (rd x 5 inb_S16_S1_5) (rd x 6 inb_S16_S1_6) (rd x 7 inb_S16_S1_7) (rd x 8 inb_S16_S1_8) (rd x 9 inb_S16_S1_9) (rd x 10 inb_S16_S1_10) (rd x 11 inb_S16_S1_11) (rd x 12 inb_S16_S1_12) (rd x 13 inb_S16_S1_13) (rd x 14 inb_S16_S1_14) (rd x 15 inb_S16_S1_15)

/-- The absolute value the bisection is run on. -/
def mag (x : S16.Idx → EReal) : EReal :=
  k0_pay7 (F := Ideal) (rd x 0 inb_S16_S1_0) (rd x 1 inb_S16_S1_1) (rd x 2 inb_S16_S1_2) (rd x 3 inb_S16_S1_3) (rd x 4 inb_S16_S1_4) (rd x 5 inb_S16_S1_5) (rd x 6 inb_S16_S1_6) (rd x 7 inb_S16_S1_7) (rd x 8 inb_S16_S1_8) (rd x 9 inb_S16_S1_9) (rd x 10 inb_S16_S1_10) (rd x 11 inb_S16_S1_11) (rd x 12 inb_S16_S1_12) (rd x 13 inb_S16_S1_13) (rd x 14 inb_S16_S1_14) (rd x 15 inb_S16_S1_15)

theorem hist_eq (x : S16.Idx → EReal) : hist x = hmax fun k => x (ix1 k) := by
  unfold hist
  simp only [rd_eq x 0 (by omega), rd_eq x 1 (by omega), rd_eq x 2 (by omega), rd_eq x 3 (by omega), rd_eq x 4 (by omega), rd_eq x 5 (by omega), rd_eq x 6 (by omega), rd_eq x 7 (by omega), rd_eq x 8 (by omega), rd_eq x 9 (by omega), rd_eq x 10 (by omega), rd_eq x 11 (by omega), rd_eq x 12 (by omega), rd_eq x 13 (by omega), rd_eq x 14 (by omega), rd_eq x 15 (by omega)]
  rfl

theorem mag_eq (x : S16.Idx → EReal) :
    mag x = Scalar.absf (F := Ideal) (φ := .f32) (Scalar.mulf (F := Ideal) (φ := .f32) (hist x) (Scalar.ofBits (F := Ideal) .f32 0x3B124925#32)) := rfl

/-! The bisection's eight trial fields, in the body's words. -/

def w1 (a : EReal) : BitVec 32 := Scalar.select (Scalar.cmpf (F := Ideal) (φ := .f32) .oge a (k0_pay8 (F := Ideal))) f1 0#32
def w2 (a : EReal) : BitVec 32 := Scalar.select (Scalar.cmpf (F := Ideal) (φ := .f32) .oge a (k0_pay9 (F := Ideal) f1 (Scalar.cmpf (F := Ideal) (φ := .f32) .oge a (k0_pay8 (F := Ideal))))) (Scalar.addi (w1 a) 64#32) (w1 a)
def w3 (a : EReal) : BitVec 32 := Scalar.select (Scalar.cmpf (F := Ideal) (φ := .f32) .oge a (k0_pay10 (F := Ideal) a f1 (Scalar.cmpf (F := Ideal) (φ := .f32) .oge a (k0_pay8 (F := Ideal))))) (Scalar.addi (w2 a) 32#32) (w2 a)
def w4 (a : EReal) : BitVec 32 := Scalar.select (Scalar.cmpf (F := Ideal) (φ := .f32) .oge a (k0_pay11 (F := Ideal) a f1 (Scalar.cmpf (F := Ideal) (φ := .f32) .oge a (k0_pay8 (F := Ideal))))) (Scalar.addi (w3 a) 16#32) (w3 a)
def w5 (a : EReal) : BitVec 32 := Scalar.select (Scalar.cmpf (F := Ideal) (φ := .f32) .oge a (k0_pay12 (F := Ideal) a f1 (Scalar.cmpf (F := Ideal) (φ := .f32) .oge a (k0_pay8 (F := Ideal))))) (Scalar.addi (w4 a) 8#32) (w4 a)
def w6 (a : EReal) : BitVec 32 := Scalar.select (Scalar.cmpf (F := Ideal) (φ := .f32) .oge a (k0_pay13 (F := Ideal) a f1 (Scalar.cmpf (F := Ideal) (φ := .f32) .oge a (k0_pay8 (F := Ideal))))) (Scalar.addi (w5 a) 4#32) (w5 a)
def w7 (a : EReal) : BitVec 32 := Scalar.select (Scalar.cmpf (F := Ideal) (φ := .f32) .oge a (k0_pay14 (F := Ideal) a f1 (Scalar.cmpf (F := Ideal) (φ := .f32) .oge a (k0_pay8 (F := Ideal))))) (Scalar.addi (w6 a) 2#32) (w6 a)
def w8 (a : EReal) : BitVec 32 := Scalar.select (Scalar.cmpf (F := Ideal) (φ := .f32) .oge a (k0_pay15 (F := Ideal) a f1 (Scalar.cmpf (F := Ideal) (φ := .f32) .oge a (k0_pay8 (F := Ideal))))) (Scalar.addi (w7 a) 1#32) (w7 a)

theorem pay1_eq : (k0_pay8 (F := Ideal)) = Scalar.ofBits (F := Ideal) .f32 (Scalar.shli (Scalar.addi 0#32 128#32) 23#32) := rfl
theorem pay2_eq (a : EReal) : k0_pay9 (F := Ideal) f1 (Scalar.cmpf (F := Ideal) (φ := .f32) .oge a (k0_pay8 (F := Ideal))) = Scalar.ofBits (F := Ideal) .f32 (Scalar.shli (Scalar.addi (w1 a) 64#32) 23#32) := rfl
theorem pay3_eq (a : EReal) : k0_pay10 (F := Ideal) a f1 (Scalar.cmpf (F := Ideal) (φ := .f32) .oge a (k0_pay8 (F := Ideal))) = Scalar.ofBits (F := Ideal) .f32 (Scalar.shli (Scalar.addi (w2 a) 32#32) 23#32) := rfl
theorem pay4_eq (a : EReal) : k0_pay11 (F := Ideal) a f1 (Scalar.cmpf (F := Ideal) (φ := .f32) .oge a (k0_pay8 (F := Ideal))) = Scalar.ofBits (F := Ideal) .f32 (Scalar.shli (Scalar.addi (w3 a) 16#32) 23#32) := rfl
theorem pay5_eq (a : EReal) : k0_pay12 (F := Ideal) a f1 (Scalar.cmpf (F := Ideal) (φ := .f32) .oge a (k0_pay8 (F := Ideal))) = Scalar.ofBits (F := Ideal) .f32 (Scalar.shli (Scalar.addi (w4 a) 8#32) 23#32) := rfl
theorem pay6_eq (a : EReal) : k0_pay13 (F := Ideal) a f1 (Scalar.cmpf (F := Ideal) (φ := .f32) .oge a (k0_pay8 (F := Ideal))) = Scalar.ofBits (F := Ideal) .f32 (Scalar.shli (Scalar.addi (w5 a) 4#32) 23#32) := rfl
theorem pay7_eq (a : EReal) : k0_pay14 (F := Ideal) a f1 (Scalar.cmpf (F := Ideal) (φ := .f32) .oge a (k0_pay8 (F := Ideal))) = Scalar.ofBits (F := Ideal) .f32 (Scalar.shli (Scalar.addi (w6 a) 2#32) 23#32) := rfl
theorem pay8_eq (a : EReal) : k0_pay15 (F := Ideal) a f1 (Scalar.cmpf (F := Ideal) (φ := .f32) .oge a (k0_pay8 (F := Ideal))) = Scalar.ofBits (F := Ideal) .f32 (Scalar.shli (Scalar.addi (w7 a) 1#32) 23#32) := rfl

/-- The body's bisection is the one of `Scale`. -/
theorem w8_eq (a : EReal) : w8 a = kfield a := by
  have e1 : w1 a = kstep a 0#32 128#32 := rfl
  have e2 : w2 a = kstep a (w1 a) 64#32 := by unfold w2; rw [pay2_eq]
  have e3 : w3 a = kstep a (w2 a) 32#32 := by unfold w3; rw [pay3_eq]
  have e4 : w4 a = kstep a (w3 a) 16#32 := by unfold w4; rw [pay4_eq]
  have e5 : w5 a = kstep a (w4 a) 8#32 := by unfold w5; rw [pay5_eq]
  have e6 : w6 a = kstep a (w5 a) 4#32 := by unfold w6; rw [pay6_eq]
  have e7 : w7 a = kstep a (w6 a) 2#32 := by unfold w7; rw [pay7_eq]
  have e8 : w8 a = kstep a (w7 a) 1#32 := by unfold w8; rw [pay8_eq]
  unfold kfield
  rw [e8, e7, e6, e5, e4, e3, e2, e1]

/-- Whether the field is that of a zero, a subnormal or an infinity. -/
abbrev out (x : S16.Idx → EReal) : BitVec 1 := Scalar.ori (Scalar.cmpi .eq (w8 (mag x)) 0#32) (Scalar.cmpi .eq (w8 (mag x)) 255#32)

/-- The exponent of a field that is not. -/
abbrev raw (x : S16.Idx → EReal) : BitVec 32 := Scalar.subi (w8 (mag x)) 126#32

/-- The scale's exponent, in the body's words. -/
abbrev ex (x : S16.Idx → EReal) : BitVec 32 :=
  Scalar.select (Scalar.cmpf (F := Ideal) (φ := .f32) .oeq (hist x) (Scalar.ofBits (F := Ideal) .f32 0x00000000#32)) 0#32
    (Scalar.select (out x) 0#32 (raw x))

theorem ex_eq (x : S16.Idx → EReal) : ex x = kexp (hmax fun k => x (ix1 k)) 0x3B124925#32 := by
  unfold ex out raw kexp kfrexp
  rw [w8_eq, mag_eq, hist_eq]

end X

/-! ## The weights' scale -/

namespace W

/-- The greatest of the sixteen scalar reads, as the body computes it. -/
def hist (x : S16.Idx → EReal) : EReal :=
  k0_pay16 (F := Ideal) (rd x 0 inb_S16_S1_0) (rd x 1 inb_S16_S1_1) (rd x 2 inb_S16_S1_2) (rd x 3 inb_S16_S1_3) (rd x 4 inb_S16_S1_4) (rd x 5 inb_S16_S1_5) (rd x 6 inb_S16_S1_6) (rd x 7 inb_S16_S1_7) (rd x 8 inb_S16_S1_8) (rd x 9 inb_S16_S1_9) (rd x 10 inb_S16_S1_10) (rd x 11 inb_S16_S1_11) (rd x 12 inb_S16_S1_12) (rd x 13 inb_S16_S1_13) (rd x 14 inb_S16_S1_14) (rd x 15 inb_S16_S1_15)

/-- The absolute value the bisection is run on. -/
def mag (x : S16.Idx → EReal) : EReal :=
  k0_pay17 (F := Ideal) (rd x 0 inb_S16_S1_0) (rd x 1 inb_S16_S1_1) (rd x 2 inb_S16_S1_2) (rd x 3 inb_S16_S1_3) (rd x 4 inb_S16_S1_4) (rd x 5 inb_S16_S1_5) (rd x 6 inb_S16_S1_6) (rd x 7 inb_S16_S1_7) (rd x 8 inb_S16_S1_8) (rd x 9 inb_S16_S1_9) (rd x 10 inb_S16_S1_10) (rd x 11 inb_S16_S1_11) (rd x 12 inb_S16_S1_12) (rd x 13 inb_S16_S1_13) (rd x 14 inb_S16_S1_14) (rd x 15 inb_S16_S1_15)

theorem hist_eq (x : S16.Idx → EReal) : hist x = hmax fun k => x (ix1 k) := by
  unfold hist
  simp only [rd_eq x 0 (by omega), rd_eq x 1 (by omega), rd_eq x 2 (by omega), rd_eq x 3 (by omega), rd_eq x 4 (by omega), rd_eq x 5 (by omega), rd_eq x 6 (by omega), rd_eq x 7 (by omega), rd_eq x 8 (by omega), rd_eq x 9 (by omega), rd_eq x 10 (by omega), rd_eq x 11 (by omega), rd_eq x 12 (by omega), rd_eq x 13 (by omega), rd_eq x 14 (by omega), rd_eq x 15 (by omega)]
  rfl

theorem mag_eq (x : S16.Idx → EReal) :
    mag x = Scalar.absf (F := Ideal) (φ := .f32) (Scalar.mulf (F := Ideal) (φ := .f32) (hist x) (Scalar.ofBits (F := Ideal) .f32 0x3B124925#32)) := rfl

/-! The bisection's eight trial fields, in the body's words. -/

def w1 (a : EReal) : BitVec 32 := Scalar.select (Scalar.cmpf (F := Ideal) (φ := .f32) .oge a (k0_pay18 (F := Ideal))) f1 0#32
def w2 (a : EReal) : BitVec 32 := Scalar.select (Scalar.cmpf (F := Ideal) (φ := .f32) .oge a (k0_pay19 (F := Ideal) a f1 (k0_pay18 (F := Ideal)))) (Scalar.addi (w1 a) 64#32) (w1 a)
def w3 (a : EReal) : BitVec 32 := Scalar.select (Scalar.cmpf (F := Ideal) (φ := .f32) .oge a (k0_pay20 (F := Ideal) a f1 (k0_pay18 (F := Ideal)))) (Scalar.addi (w2 a) 32#32) (w2 a)
def w4 (a : EReal) : BitVec 32 := Scalar.select (Scalar.cmpf (F := Ideal) (φ := .f32) .oge a (k0_pay21 (F := Ideal) a f1 (k0_pay18 (F := Ideal)))) (Scalar.addi (w3 a) 16#32) (w3 a)
def w5 (a : EReal) : BitVec 32 := Scalar.select (Scalar.cmpf (F := Ideal) (φ := .f32) .oge a (k0_pay22 (F := Ideal) a f1 (k0_pay18 (F := Ideal)))) (Scalar.addi (w4 a) 8#32) (w4 a)
def w6 (a : EReal) : BitVec 32 := Scalar.select (Scalar.cmpf (F := Ideal) (φ := .f32) .oge a (k0_pay23 (F := Ideal) a f1 (k0_pay18 (F := Ideal)))) (Scalar.addi (w5 a) 4#32) (w5 a)
def w7 (a : EReal) : BitVec 32 := Scalar.select (Scalar.cmpf (F := Ideal) (φ := .f32) .oge a (k0_pay24 (F := Ideal) a f1 (k0_pay18 (F := Ideal)))) (Scalar.addi (w6 a) 2#32) (w6 a)
def w8 (a : EReal) : BitVec 32 := Scalar.select (Scalar.cmpf (F := Ideal) (φ := .f32) .oge a (k0_pay25 (F := Ideal) a f1 (k0_pay18 (F := Ideal)))) (Scalar.addi (w7 a) 1#32) (w7 a)

theorem pay1_eq : (k0_pay18 (F := Ideal)) = Scalar.ofBits (F := Ideal) .f32 (Scalar.shli (Scalar.addi 0#32 128#32) 23#32) := rfl
theorem pay2_eq (a : EReal) : k0_pay19 (F := Ideal) a f1 (k0_pay18 (F := Ideal)) = Scalar.ofBits (F := Ideal) .f32 (Scalar.shli (Scalar.addi (w1 a) 64#32) 23#32) := rfl
theorem pay3_eq (a : EReal) : k0_pay20 (F := Ideal) a f1 (k0_pay18 (F := Ideal)) = Scalar.ofBits (F := Ideal) .f32 (Scalar.shli (Scalar.addi (w2 a) 32#32) 23#32) := rfl
theorem pay4_eq (a : EReal) : k0_pay21 (F := Ideal) a f1 (k0_pay18 (F := Ideal)) = Scalar.ofBits (F := Ideal) .f32 (Scalar.shli (Scalar.addi (w3 a) 16#32) 23#32) := rfl
theorem pay5_eq (a : EReal) : k0_pay22 (F := Ideal) a f1 (k0_pay18 (F := Ideal)) = Scalar.ofBits (F := Ideal) .f32 (Scalar.shli (Scalar.addi (w4 a) 8#32) 23#32) := rfl
theorem pay6_eq (a : EReal) : k0_pay23 (F := Ideal) a f1 (k0_pay18 (F := Ideal)) = Scalar.ofBits (F := Ideal) .f32 (Scalar.shli (Scalar.addi (w5 a) 4#32) 23#32) := rfl
theorem pay7_eq (a : EReal) : k0_pay24 (F := Ideal) a f1 (k0_pay18 (F := Ideal)) = Scalar.ofBits (F := Ideal) .f32 (Scalar.shli (Scalar.addi (w6 a) 2#32) 23#32) := rfl
theorem pay8_eq (a : EReal) : k0_pay25 (F := Ideal) a f1 (k0_pay18 (F := Ideal)) = Scalar.ofBits (F := Ideal) .f32 (Scalar.shli (Scalar.addi (w7 a) 1#32) 23#32) := rfl

/-- The body's bisection is the one of `Scale`. -/
theorem w8_eq (a : EReal) : w8 a = kfield a := by
  have e1 : w1 a = kstep a 0#32 128#32 := rfl
  have e2 : w2 a = kstep a (w1 a) 64#32 := by unfold w2; rw [pay2_eq]
  have e3 : w3 a = kstep a (w2 a) 32#32 := by unfold w3; rw [pay3_eq]
  have e4 : w4 a = kstep a (w3 a) 16#32 := by unfold w4; rw [pay4_eq]
  have e5 : w5 a = kstep a (w4 a) 8#32 := by unfold w5; rw [pay5_eq]
  have e6 : w6 a = kstep a (w5 a) 4#32 := by unfold w6; rw [pay6_eq]
  have e7 : w7 a = kstep a (w6 a) 2#32 := by unfold w7; rw [pay7_eq]
  have e8 : w8 a = kstep a (w7 a) 1#32 := by unfold w8; rw [pay8_eq]
  unfold kfield
  rw [e8, e7, e6, e5, e4, e3, e2, e1]

/-- Whether the field is that of a zero, a subnormal or an infinity. -/
abbrev out (x : S16.Idx → EReal) : BitVec 1 := Scalar.ori (Scalar.cmpi .eq (w8 (mag x)) 0#32) (Scalar.cmpi .eq (w8 (mag x)) 255#32)

/-- The exponent of a field that is not. -/
abbrev raw (x : S16.Idx → EReal) : BitVec 32 := Scalar.subi (w8 (mag x)) 126#32

/-- The scale's exponent, in the body's words. -/
abbrev ex (x : S16.Idx → EReal) : BitVec 32 :=
  Scalar.select (Scalar.cmpf (F := Ideal) (φ := .f32) .oeq (hist x) (Scalar.ofBits (F := Ideal) .f32 0x00000000#32)) 0#32
    (Scalar.select (out x) 0#32 (raw x))

theorem ex_eq (x : S16.Idx → EReal) : ex x = kexp (hmax fun k => x (ix1 k)) 0x3B124925#32 := by
  unfold ex out raw kexp kfrexp
  rw [w8_eq, mag_eq, hist_eq]

end W

/-! ## The gradients' scale -/

namespace D

/-- The greatest of the sixteen scalar reads, as the body computes it. -/
def hist (x : S16.Idx → EReal) : EReal :=
  k0_pay26 (F := Ideal) (rd x 0 inb_S16_S1_0) (rd x 1 inb_S16_S1_1) (rd x 2 inb_S16_S1_2) (rd x 3 inb_S16_S1_3) (rd x 4 inb_S16_S1_4) (rd x 5 inb_S16_S1_5) (rd x 6 inb_S16_S1_6) (rd x 7 inb_S16_S1_7) (rd x 8 inb_S16_S1_8) (rd x 9 inb_S16_S1_9) (rd x 10 inb_S16_S1_10) (rd x 11 inb_S16_S1_11) (rd x 12 inb_S16_S1_12) (rd x 13 inb_S16_S1_13) (rd x 14 inb_S16_S1_14) (rd x 15 inb_S16_S1_15)

/-- The absolute value the bisection is run on. -/
def mag (x : S16.Idx → EReal) : EReal :=
  k0_pay27 (F := Ideal) (rd x 0 inb_S16_S1_0) (rd x 1 inb_S16_S1_1) (rd x 2 inb_S16_S1_2) (rd x 3 inb_S16_S1_3) (rd x 4 inb_S16_S1_4) (rd x 5 inb_S16_S1_5) (rd x 6 inb_S16_S1_6) (rd x 7 inb_S16_S1_7) (rd x 8 inb_S16_S1_8) (rd x 9 inb_S16_S1_9) (rd x 10 inb_S16_S1_10) (rd x 11 inb_S16_S1_11) (rd x 12 inb_S16_S1_12) (rd x 13 inb_S16_S1_13) (rd x 14 inb_S16_S1_14) (rd x 15 inb_S16_S1_15)

theorem hist_eq (x : S16.Idx → EReal) : hist x = hmax fun k => x (ix1 k) := by
  unfold hist
  simp only [rd_eq x 0 (by omega), rd_eq x 1 (by omega), rd_eq x 2 (by omega), rd_eq x 3 (by omega), rd_eq x 4 (by omega), rd_eq x 5 (by omega), rd_eq x 6 (by omega), rd_eq x 7 (by omega), rd_eq x 8 (by omega), rd_eq x 9 (by omega), rd_eq x 10 (by omega), rd_eq x 11 (by omega), rd_eq x 12 (by omega), rd_eq x 13 (by omega), rd_eq x 14 (by omega), rd_eq x 15 (by omega)]
  rfl

theorem mag_eq (x : S16.Idx → EReal) :
    mag x = Scalar.absf (F := Ideal) (φ := .f32) (Scalar.mulf (F := Ideal) (φ := .f32) (hist x) (Scalar.ofBits (F := Ideal) .f32 0x37924925#32)) := rfl

/-! The bisection's eight trial fields, in the body's words. -/

def w1 (a : EReal) : BitVec 32 := Scalar.select (Scalar.cmpf (F := Ideal) (φ := .f32) .oge a (k0_pay28 (F := Ideal) s1)) f1 0#32
def w2 (a : EReal) : BitVec 32 := Scalar.select (Scalar.cmpf (F := Ideal) (φ := .f32) .oge a (k0_pay29 (F := Ideal) a f1 s1)) (Scalar.addi (w1 a) 64#32) (w1 a)
def w3 (a : EReal) : BitVec 32 := Scalar.select (Scalar.cmpf (F := Ideal) (φ := .f32) .oge a (k0_pay30 (F := Ideal) a f1 s1)) (Scalar.addi (w2 a) 32#32) (w2 a)
def w4 (a : EReal) : BitVec 32 := Scalar.select (Scalar.cmpf (F := Ideal) (φ := .f32) .oge a (k0_pay31 (F := Ideal) a f1 s1)) (Scalar.addi (w3 a) 16#32) (w3 a)
def w5 (a : EReal) : BitVec 32 := Scalar.select (Scalar.cmpf (F := Ideal) (φ := .f32) .oge a (k0_pay32 (F := Ideal) a f1 s1)) (Scalar.addi (w4 a) 8#32) (w4 a)
def w6 (a : EReal) : BitVec 32 := Scalar.select (Scalar.cmpf (F := Ideal) (φ := .f32) .oge a (k0_pay33 (F := Ideal) a f1 s1)) (Scalar.addi (w5 a) 4#32) (w5 a)
def w7 (a : EReal) : BitVec 32 := Scalar.select (Scalar.cmpf (F := Ideal) (φ := .f32) .oge a (k0_pay34 (F := Ideal) a f1 s1)) (Scalar.addi (w6 a) 2#32) (w6 a)
def w8 (a : EReal) : BitVec 32 := Scalar.select (Scalar.cmpf (F := Ideal) (φ := .f32) .oge a (k0_pay35 (F := Ideal) a f1 s1)) (Scalar.addi (w7 a) 1#32) (w7 a)

theorem pay1_eq : (k0_pay28 (F := Ideal) s1) = Scalar.ofBits (F := Ideal) .f32 (Scalar.shli (Scalar.addi 0#32 128#32) 23#32) := rfl
theorem pay2_eq (a : EReal) : k0_pay29 (F := Ideal) a f1 s1 = Scalar.ofBits (F := Ideal) .f32 (Scalar.shli (Scalar.addi (w1 a) 64#32) 23#32) := rfl
theorem pay3_eq (a : EReal) : k0_pay30 (F := Ideal) a f1 s1 = Scalar.ofBits (F := Ideal) .f32 (Scalar.shli (Scalar.addi (w2 a) 32#32) 23#32) := rfl
theorem pay4_eq (a : EReal) : k0_pay31 (F := Ideal) a f1 s1 = Scalar.ofBits (F := Ideal) .f32 (Scalar.shli (Scalar.addi (w3 a) 16#32) 23#32) := rfl
theorem pay5_eq (a : EReal) : k0_pay32 (F := Ideal) a f1 s1 = Scalar.ofBits (F := Ideal) .f32 (Scalar.shli (Scalar.addi (w4 a) 8#32) 23#32) := rfl
theorem pay6_eq (a : EReal) : k0_pay33 (F := Ideal) a f1 s1 = Scalar.ofBits (F := Ideal) .f32 (Scalar.shli (Scalar.addi (w5 a) 4#32) 23#32) := rfl
theorem pay7_eq (a : EReal) : k0_pay34 (F := Ideal) a f1 s1 = Scalar.ofBits (F := Ideal) .f32 (Scalar.shli (Scalar.addi (w6 a) 2#32) 23#32) := rfl
theorem pay8_eq (a : EReal) : k0_pay35 (F := Ideal) a f1 s1 = Scalar.ofBits (F := Ideal) .f32 (Scalar.shli (Scalar.addi (w7 a) 1#32) 23#32) := rfl

/-- The body's bisection is the one of `Scale`. -/
theorem w8_eq (a : EReal) : w8 a = kfield a := by
  have e1 : w1 a = kstep a 0#32 128#32 := rfl
  have e2 : w2 a = kstep a (w1 a) 64#32 := by unfold w2; rw [pay2_eq]
  have e3 : w3 a = kstep a (w2 a) 32#32 := by unfold w3; rw [pay3_eq]
  have e4 : w4 a = kstep a (w3 a) 16#32 := by unfold w4; rw [pay4_eq]
  have e5 : w5 a = kstep a (w4 a) 8#32 := by unfold w5; rw [pay5_eq]
  have e6 : w6 a = kstep a (w5 a) 4#32 := by unfold w6; rw [pay6_eq]
  have e7 : w7 a = kstep a (w6 a) 2#32 := by unfold w7; rw [pay7_eq]
  have e8 : w8 a = kstep a (w7 a) 1#32 := by unfold w8; rw [pay8_eq]
  unfold kfield
  rw [e8, e7, e6, e5, e4, e3, e2, e1]

/-- Whether the field is that of a zero, a subnormal or an infinity. -/
abbrev out (x : S16.Idx → EReal) : BitVec 1 := Scalar.ori (Scalar.cmpi .eq (w8 (mag x)) 0#32) (Scalar.cmpi .eq (w8 (mag x)) 255#32)

/-- The exponent of a field that is not. -/
abbrev raw (x : S16.Idx → EReal) : BitVec 32 := Scalar.subi (w8 (mag x)) 126#32

/-- The scale's exponent, in the body's words. -/
abbrev ex (x : S16.Idx → EReal) : BitVec 32 :=
  Scalar.select (Scalar.cmpf (F := Ideal) (φ := .f32) .oeq (hist x) (Scalar.ofBits (F := Ideal) .f32 0x00000000#32)) 0#32
    (Scalar.select (out x) 0#32 (raw x))

theorem ex_eq (x : S16.Idx → EReal) : ex x = kexp (hmax fun k => x (ix1 k)) 0x37924925#32 := by
  unfold ex out raw kexp kfrexp
  rw [w8_eq, mag_eq, hist_eq]

end D

end Cert.KMIdeal.Value
-- ==== Proof.MPoint.lean ====
/-
  What each point of the main call leaves, over the extended reals: the body's values at the point's blocks.
-/
module
public import proofs.«01_k».proof.Proof.MExp
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.KMIdeal.Value
open Cert.KMIdeal Cert.KMIdeal.Gen
variable (m : (ℓ : Loc nD τ sig) → Buf (Elt Ideal) ℓ)

/-- The clip's bounds of the gradients' codes, in the body's words. -/
abbrev lo : EReal := Scalar.ofBits (F := Ideal) .f32 0xC7600000#32
abbrev hi : EReal := Scalar.ofBits (F := Ideal) .f32 0x47600000#32

/-- The three scales of a point, in the body's words. -/
abbrev sx (c : Dev nD) (t : Fin cfg0.N) : EReal := k0_pay36 (F := Ideal) (X.ex (iblk m c 0 t))
abbrev sw (c : Dev nD) (t : Fin cfg0.N) : EReal := k0_pay37 (F := Ideal) (W.ex (iblk m c 1 t))
abbrev sdy (c : Dev nD) (t : Fin cfg0.N) : EReal := k0_pay38 (F := Ideal) (D.hist (iblk m c 2 t)) (D.out (iblk m c 2 t)) (D.raw (iblk m c 2 t))

/-- A point's block of codes of the activations, and of unclipped gradients. -/
abbrev xc (c : Dev nD) (t : Fin cfg0.N) : FVec Ideal S512x1792 .fp8e4m3 := k0_pay41 (F := Ideal) (X.ex (iblk m c 0 t)) (iblk m c 3 t)
abbrev dyr (c : Dev nD) (t : Fin cfg0.N) : FVec Ideal S512x3200 .f32 := k0_pay42 (F := Ideal) (D.ex (iblk m c 2 t)) (iblk m c 4 t)

/-- The dw window and the two scratches as the point before left them. -/
abbrev was (c : Dev nD) (t : Fin cfg0.N) := outsAt0 m c (t.val - 1) (Nat.lt_of_le_of_lt (Nat.sub_le _ _) t.isLt)

theorem yA (c : Dev nD) (t : Fin cfg0.N) (h0 : t.val % 12 = 0) (h1 : ¬t.val % 12 = 11) :
    (outsAt0 m c t.val t.isLt).1 = k0_pay46 (F := Ideal) (sx m c t) (sw m c t) (xc m c t) (iblk m c 5 t) := by
  rw [outsAt0_A m c t h0 h1]
  frame_out
  try rfl

theorem yB (c : Dev nD) (t : Fin cfg0.N) (h0 : ¬t.val % 12 = 0) (h1 : ¬t.val % 12 = 11) :
    (outsAt0 m c t.val t.isLt).1 = k0_pay46 (F := Ideal) (sx m c t) (sw m c t) (xc m c t) (iblk m c 5 t) := by
  rw [outsAt0_B m c t h0 h1]
  frame_out
  try rfl

theorem yC (c : Dev nD) (t : Fin cfg0.N) (h0 : ¬t.val % 12 = 0) (h1 : t.val % 12 = 11) :
    (outsAt0 m c t.val t.isLt).1 = k0_pay46 (F := Ideal) (sx m c t) (sw m c t) (xc m c t) (iblk m c 5 t) := by
  rw [outsAt0_C m c t h0 h1]
  frame_out
  try rfl

theorem dxA (c : Dev nD) (t : Fin cfg0.N) (h0 : t.val % 12 = 0) (h1 : ¬t.val % 12 = 11) :
    (outsAt0 m c t.val t.isLt).2.1 = k0_pay47 (F := Ideal) (sw m c t) (sdy m c t) (dyr m c t) lo hi (iblk m c 5 t) := by
  rw [outsAt0_A m c t h0 h1]
  frame_out
  try rfl

theorem dxB (c : Dev nD) (t : Fin cfg0.N) (h0 : ¬t.val % 12 = 0) (h1 : ¬t.val % 12 = 11) :
    (outsAt0 m c t.val t.isLt).2.1 = k0_pay47 (F := Ideal) (sw m c t) (sdy m c t) (dyr m c t) lo hi (iblk m c 5 t) := by
  rw [outsAt0_B m c t h0 h1]
  frame_out
  try rfl

theorem dxC (c : Dev nD) (t : Fin cfg0.N) (h0 : ¬t.val % 12 = 0) (h1 : t.val % 12 = 11) :
    (outsAt0 m c t.val t.isLt).2.1 = k0_pay47 (F := Ideal) (sw m c t) (sdy m c t) (dyr m c t) lo hi (iblk m c 5 t) := by
  rw [outsAt0_C m c t h0 h1]
  frame_out
  try rfl

theorem dwA (c : Dev nD) (t : Fin cfg0.N) (h0 : t.val % 12 = 0) (h1 : ¬t.val % 12 = 11) :
    (outsAt0 m c t.val t.isLt).2.2.1 = k0_pay51 (F := Ideal) (xc m c t) (dyr m c t) lo hi (k0_pay48 (F := Ideal)) := by
  rw [outsAt0_A m c t h0 h1]
  frame_out
  try rfl

theorem dwB (c : Dev nD) (t : Fin cfg0.N) (h0 : ¬t.val % 12 = 0) (h1 : ¬t.val % 12 = 11) :
    (outsAt0 m c t.val t.isLt).2.2.1 = k0_pay51 (F := Ideal) (xc m c t) (dyr m c t) lo hi (was m c t).2.2.1 := by
  rw [outsAt0_B m c t h0 h1]
  frame_out
  try simp only [read_unread_whole]
  try rfl

theorem dwC (c : Dev nD) (t : Fin cfg0.N) (h0 : ¬t.val % 12 = 0) (h1 : t.val % 12 = 11) :
    (outsAt0 m c t.val t.isLt).2.2.1 = k0_pay3 (F := Ideal) (sx m c t) (sdy m c t) (k0_pay51 (F := Ideal) (xc m c t) (dyr m c t) lo hi (was m c t).2.2.1) := by
  rw [outsAt0_C m c t h0 h1]
  frame_out
  try simp only [read_unread_whole]
  try rfl

theorem xcodesA (c : Dev nD) (t : Fin cfg0.N) (h0 : t.val % 12 = 0) (h1 : ¬t.val % 12 = 11) :
    (outsAt0 m c t.val t.isLt).2.2.2.1 = k0_pay44 (F := Ideal) (xc m c t) := by
  rw [outsAt0_A m c t h0 h1]
  frame_out
  try rfl

theorem xcodesB (c : Dev nD) (t : Fin cfg0.N) (h0 : ¬t.val % 12 = 0) (h1 : ¬t.val % 12 = 11) :
    (outsAt0 m c t.val t.isLt).2.2.2.1 = k0_pay44 (F := Ideal) (xc m c t) := by
  rw [outsAt0_B m c t h0 h1]
  frame_out
  try rfl

theorem xcodesC (c : Dev nD) (t : Fin cfg0.N) (h0 : ¬t.val % 12 = 0) (h1 : t.val % 12 = 11) :
    (outsAt0 m c t.val t.isLt).2.2.2.1 = k0_pay44 (F := Ideal) (xc m c t) := by
  rw [outsAt0_C m c t h0 h1]
  frame_out
  try rfl

theorem dycodesA (c : Dev nD) (t : Fin cfg0.N) (h0 : t.val % 12 = 0) (h1 : ¬t.val % 12 = 11) :
    (outsAt0 m c t.val t.isLt).2.2.2.2.1 = k0_pay45 (F := Ideal) (dyr m c t) lo hi := by
  rw [outsAt0_A m c t h0 h1]
  frame_out
  try rfl

theorem dycodesB (c : Dev nD) (t : Fin cfg0.N) (h0 : ¬t.val % 12 = 0) (h1 : ¬t.val % 12 = 11) :
    (outsAt0 m c t.val t.isLt).2.2.2.2.1 = k0_pay45 (F := Ideal) (dyr m c t) lo hi := by
  rw [outsAt0_B m c t h0 h1]
  frame_out
  try rfl

theorem dycodesC (c : Dev nD) (t : Fin cfg0.N) (h0 : ¬t.val % 12 = 0) (h1 : t.val % 12 = 11) :
    (outsAt0 m c t.val t.isLt).2.2.2.2.1 = k0_pay45 (F := Ideal) (dyr m c t) lo hi := by
  rw [outsAt0_C m c t h0 h1]
  frame_out
  try rfl

theorem scrxA (c : Dev nD) (t : Fin cfg0.N) (h0 : t.val % 12 = 0) (h1 : ¬t.val % 12 = 11) :
    (outsAt0 m c t.val t.isLt).2.2.2.2.2.2.2.2.2.1 = k0_pay1 (F := Ideal) (k0_pay39 (F := Ideal) (iblk m c 3 t)) (k0_pay49 (F := Ideal)) := by
  rw [outsAt0_A m c t h0 h1]
  frame_out
  try rfl

theorem scrxB (c : Dev nD) (t : Fin cfg0.N) (h0 : ¬t.val % 12 = 0) (h1 : ¬t.val % 12 = 11) :
    (outsAt0 m c t.val t.isLt).2.2.2.2.2.2.2.2.2.1 = k0_pay1 (F := Ideal) (k0_pay39 (F := Ideal) (iblk m c 3 t)) (was m c t).2.2.2.2.2.2.2.2.2.1 := by
  rw [outsAt0_B m c t h0 h1]
  frame_out
  try simp only [read_unread_whole]
  try rfl

theorem scrxC (c : Dev nD) (t : Fin cfg0.N) (h0 : ¬t.val % 12 = 0) (h1 : t.val % 12 = 11) :
    (outsAt0 m c t.val t.isLt).2.2.2.2.2.2.2.2.2.1 = k0_pay1 (F := Ideal) (k0_pay39 (F := Ideal) (iblk m c 3 t)) (was m c t).2.2.2.2.2.2.2.2.2.1 := by
  rw [outsAt0_C m c t h0 h1]
  frame_out
  try simp only [read_unread_whole]
  try rfl

theorem scrdyA (c : Dev nD) (t : Fin cfg0.N) (h0 : t.val % 12 = 0) (h1 : ¬t.val % 12 = 11) :
    (outsAt0 m c t.val t.isLt).2.2.2.2.2.2.2.2.2.2 = k0_pay2 (F := Ideal) (k0_pay40 (F := Ideal) (iblk m c 4 t)) (k0_pay50 (F := Ideal)) := by
  rw [outsAt0_A m c t h0 h1]
  frame_out
  try rfl

theorem scrdyB (c : Dev nD) (t : Fin cfg0.N) (h0 : ¬t.val % 12 = 0) (h1 : ¬t.val % 12 = 11) :
    (outsAt0 m c t.val t.isLt).2.2.2.2.2.2.2.2.2.2 = k0_pay2 (F := Ideal) (k0_pay40 (F := Ideal) (iblk m c 4 t)) (was m c t).2.2.2.2.2.2.2.2.2.2 := by
  rw [outsAt0_B m c t h0 h1]
  frame_out
  try simp only [read_unread_whole]
  try rfl

theorem scrdyC (c : Dev nD) (t : Fin cfg0.N) (h0 : ¬t.val % 12 = 0) (h1 : t.val % 12 = 11) :
    (outsAt0 m c t.val t.isLt).2.2.2.2.2.2.2.2.2.2 = k0_pay2 (F := Ideal) (k0_pay40 (F := Ideal) (iblk m c 4 t)) (was m c t).2.2.2.2.2.2.2.2.2.2 := by
  rw [outsAt0_C m c t h0 h1]
  frame_out
  try simp only [read_unread_whole]
  try rfl

/-- What the last point leaves in the history: the entries moved down by one, the new maximum last. -/
theorem nhxC (c : Dev nD) (t : Fin cfg0.N) (h0 : ¬t.val % 12 = 0) (h1 : t.val % 12 = 11) (y : S16.Idx) :
    (outsAt0 m c t.val t.isLt).2.2.2.2.2.1 y = Scale.shift (iblk m c 0 t) (k0_pay4 (F := Ideal) (outsAt0 m c t.val t.isLt).2.2.2.2.2.2.2.2.2.1) y := by
  rw [scrxC m c t h0 h1]
  rw [outsAt0_C m c t h0 h1]
  frame_out
  simp only [read_unread_whole]
  refine View.canon_eq_of_allAt _ y _ (View.cover_of_tiled_head _ _ _ rfl y) ?_
  refine View.allAt_cons_unit _ _ _ _ _ (Scale.tile_last _ _ y) ?_
  refine View.allAt_cons_unit _ _ _ _ _ (Scale.tile_mid _ _ y 14 (by omega) _ _) ?_
  refine View.allAt_cons_unit _ _ _ _ _ (Scale.tile_mid _ _ y 13 (by omega) _ _) ?_
  refine View.allAt_cons_unit _ _ _ _ _ (Scale.tile_mid _ _ y 12 (by omega) _ _) ?_
  refine View.allAt_cons_unit _ _ _ _ _ (Scale.tile_mid _ _ y 11 (by omega) _ _) ?_
  refine View.allAt_cons_unit _ _ _ _ _ (Scale.tile_mid _ _ y 10 (by omega) _ _) ?_
  refine View.allAt_cons_unit _ _ _ _ _ (Scale.tile_mid _ _ y 9 (by omega) _ _) ?_
  refine View.allAt_cons_unit _ _ _ _ _ (Scale.tile_mid _ _ y 8 (by omega) _ _) ?_
  refine View.allAt_cons_unit _ _ _ _ _ (Scale.tile_mid _ _ y 7 (by omega) _ _) ?_
  refine View.allAt_cons_unit _ _ _ _ _ (Scale.tile_mid _ _ y 6 (by omega) _ _) ?_
  refine View.allAt_cons_unit _ _ _ _ _ (Scale.tile_mid _ _ y 5 (by omega) _ _) ?_
  refine View.allAt_cons_unit _ _ _ _ _ (Scale.tile_mid _ _ y 4 (by omega) _ _) ?_
  refine View.allAt_cons_unit _ _ _ _ _ (Scale.tile_mid _ _ y 3 (by omega) _ _) ?_
  refine View.allAt_cons_unit _ _ _ _ _ (Scale.tile_mid _ _ y 2 (by omega) _ _) ?_
  refine View.allAt_cons_unit _ _ _ _ _ (Scale.tile_mid _ _ y 1 (by omega) _ _) ?_
  refine View.allAt_cons_unit _ _ _ _ _ (Scale.tile_mid _ _ y 0 (by omega) _ _) ?_
  exact View.allAt_nil _ _

/-- What the last point leaves in the history: the entries moved down by one, the new maximum last. -/
theorem nhdyC (c : Dev nD) (t : Fin cfg0.N) (h0 : ¬t.val % 12 = 0) (h1 : t.val % 12 = 11) (y : S16.Idx) :
    (outsAt0 m c t.val t.isLt).2.2.2.2.2.2.1 y = Scale.shift (iblk m c 2 t) (k0_pay5 (F := Ideal) (outsAt0 m c t.val t.isLt).2.2.2.2.2.2.2.2.2.2) y := by
  rw [scrdyC m c t h0 h1]
  rw [outsAt0_C m c t h0 h1]
  frame_out
  simp only [read_unread_whole]
  refine View.canon_eq_of_allAt _ y _ (View.cover_of_tiled_head _ _ _ rfl y) ?_
  refine View.allAt_cons_unit _ _ _ _ _ (Scale.tile_last _ _ y) ?_
  refine View.allAt_cons_unit _ _ _ _ _ (Scale.tile_mid _ _ y 14 (by omega) _ _) ?_
  refine View.allAt_cons_unit _ _ _ _ _ (Scale.tile_mid _ _ y 13 (by omega) _ _) ?_
  refine View.allAt_cons_unit _ _ _ _ _ (Scale.tile_mid _ _ y 12 (by omega) _ _) ?_
  refine View.allAt_cons_unit _ _ _ _ _ (Scale.tile_mid _ _ y 11 (by omega) _ _) ?_
  refine View.allAt_cons_unit _ _ _ _ _ (Scale.tile_mid _ _ y 10 (by omega) _ _) ?_
  refine View.allAt_cons_unit _ _ _ _ _ (Scale.tile_mid _ _ y 9 (by omega) _ _) ?_
  refine View.allAt_cons_unit _ _ _ _ _ (Scale.tile_mid _ _ y 8 (by omega) _ _) ?_
  refine View.allAt_cons_unit _ _ _ _ _ (Scale.tile_mid _ _ y 7 (by omega) _ _) ?_
  refine View.allAt_cons_unit _ _ _ _ _ (Scale.tile_mid _ _ y 6 (by omega) _ _) ?_
  refine View.allAt_cons_unit _ _ _ _ _ (Scale.tile_mid _ _ y 5 (by omega) _ _) ?_
  refine View.allAt_cons_unit _ _ _ _ _ (Scale.tile_mid _ _ y 4 (by omega) _ _) ?_
  refine View.allAt_cons_unit _ _ _ _ _ (Scale.tile_mid _ _ y 3 (by omega) _ _) ?_
  refine View.allAt_cons_unit _ _ _ _ _ (Scale.tile_mid _ _ y 2 (by omega) _ _) ?_
  refine View.allAt_cons_unit _ _ _ _ _ (Scale.tile_mid _ _ y 1 (by omega) _ _) ?_
  refine View.allAt_cons_unit _ _ _ _ _ (Scale.tile_mid _ _ y 0 (by omega) _ _) ?_
  exact View.allAt_nil _ _

theorem xsC (c : Dev nD) (t : Fin cfg0.N) (h0 : ¬t.val % 12 = 0) (h1 : t.val % 12 = 11) (y : S1.Idx) :
    (outsAt0 m c t.val t.isLt).2.2.2.2.2.2.2.1 y = sx m c t := by
  rw [outsAt0_C m c t h0 h1]
  frame_out
  try rfl

theorem dysC (c : Dev nD) (t : Fin cfg0.N) (h0 : ¬t.val % 12 = 0) (h1 : t.val % 12 = 11) (y : S1.Idx) :
    (outsAt0 m c t.val t.isLt).2.2.2.2.2.2.2.2.1 y = sdy m c t := by
  rw [outsAt0_C m c t h0 h1]
  frame_out
  try rfl

end Cert.KMIdeal.Value
-- ==== Proof.MMax.lean ====
/-
  The absolute maxima of the main call: their upper bounds are those of all the entries.
-/
module
public import proofs.«01_k».proof.Proof.MPoint
@[expose] public section
set_option maxRecDepth 16384
noncomputable section
open Idealize.ShloMosaic Idealize.ShloMosaic.TcCoe Idealize.SL.Sem
open Idealize.ShloMosaic.Pipeline (Dat)
namespace Cert.KMIdeal.Value
open Cert.KMIdeal Cert.KMIdeal.Gen
variable (m : (ℓ : Loc nD τ sig) → Buf (Elt Ideal) ℓ)

theorem ofBits_zero_bf16 : Ideal.ofBits .bf16 (0x0000#16) = 0 := by
  show Ideal.ieee 8 7 (0x0000#16) = 0
  unfold Ideal.ieee
  norm_num

theorem ofBits_neg_inf_bf16 : Ideal.ofBits .bf16 (0xFF80#16) = ⊥ := by
  show Ideal.ieee 8 7 (0xFF80#16) = ⊥
  unfold Ideal.ieee
  simp

namespace X

/-- The absolute maximum so far: its upper bounds are those of what was there and of the block. -/
theorem step_le (blk : S1x512x1792.Idx → EReal) (scr : S16x1792.Idx → EReal) (b : EReal) :
    (∀ j, k0_pay1 (F := Ideal) (k0_pay39 (F := Ideal) blk) scr j ≤ b) ↔ (∀ j, scr j ≤ b) ∧ ∀ i, Scale.ab (blk i) ≤ b := by
  unfold k0_pay1
  try dsimp only
  rw [Scale.forall_shapeCast_le]
  have h := Scale.forall_mred_le (φ := .bf16) (shapeCast S32x16x1792 (absf (F := Ideal) (φ := .bf16) (k0_pay39 (F := Ideal) blk)) shapeCasts_S512x1792_S32x16x1792) 0xFF80#16
    reduces_S32x16x1792_S16x1792 (.inr rfl) rfl ofBits_neg_inf_bf16 b
  rw [Scale.forall_shapeCast_le] at h
  have h' : (∀ i, absf (F := Ideal) (φ := .bf16) (k0_pay39 (F := Ideal) blk) i ≤ b) ↔ ∀ i, Scale.ab (blk i) ≤ b :=
    Scale.forall_shapeCast_le (s := S1x512x1792) (t := S512x1792) (fun i => Scale.ab (blk i)) shapeCasts_S1x512x1792_S512x1792 b
  refine Iff.trans ?_ (and_congr_right fun _ => h.trans h')
  rw [← forall_and]
  exact forall_congr' fun j => max_le_iff

theorem zero_le (b : EReal) : (∀ j, k0_pay49 (F := Ideal) j ≤ b) ↔ 0 ≤ b := by
  unfold k0_pay49
  try dsimp only
  try rw [Scale.forall_shapeCast_le]
  have e : ∀ i, broadcast (α := EReal) S16x1792 (Scalar.ofBits (F := Ideal) .bf16 0x0000#16) i = 0 := fun i => ofBits_zero_bf16
  exact ⟨fun h => (e (ix2 ⟨0, by omega⟩ ⟨0, by omega⟩)).symm.trans_le (h (ix2 ⟨0, by omega⟩ ⟨0, by omega⟩)), fun h i => (e i).trans_le h⟩

/-- The last point's maximum over the scratch. -/
theorem all_le (scr : S16x1792.Idx → EReal) (b : EReal) : k0_pay4 (F := Ideal) scr ≤ b ↔ ∀ j, scr j ≤ b := by
  have h := Scale.forall_mred_le (φ := .f32) (shapeCast S1x16x1792 scr shapeCasts_S16x1792_S1x16x1792) 0xFF800000#32
    reduces_S1x16x1792_S1 (.inl rfl) rfl Scale.ofBits_neg_inf b
  rw [Scale.forall_shapeCast_le] at h
  refine Iff.trans ?_ h
  have e2 : k0_pay4 (F := Ideal) scr = multiReduction (F := Ideal) (φ := .f32) .maximumf [1, 2] S1 (shapeCast S1x16x1792 scr shapeCasts_S16x1792_S1x16x1792)
      0xFF800000#32 reduces_S1x16x1792_S1 (.inl rfl) rfl (Shape.reshapeEquiv shapeCasts_S1_S1x1x1 fun a => ⟨(![0, 0, 0] : Fin 3 → ℕ) a, inpos_S1x1x1_p0_0_0 a⟩) := by
    unfold k0_pay4 extractAt
    rfl
  rw [e2]
  refine ⟨fun H j => ?_, fun H => H _⟩
  have e : ∀ i j : S1.Idx, i = j := fun i j => funext fun a => by fin_cases a; exact Subsingleton.elim (α := Fin 1) _ _
  rw [e j _]
  exact H

/-- The scratch after point `n`: its upper bounds are those of zero and of every block so far. -/
theorem scr_le (c : Dev nD) (b : EReal) : ∀ n (hn : n < cfg0.N), (∀ j, (outsAt0 m c n hn).2.2.2.2.2.2.2.2.2.1 j ≤ b) ↔
    0 ≤ b ∧ ∀ t : Fin cfg0.N, t.val ≤ n → ∀ i, Scale.ab ((iblk m c 3 t : S1x512x1792.Idx → EReal) i) ≤ b := by
  intro n
  induction n with
  | zero =>
    intro hn
    have e := scrxA m c ⟨0, hn⟩ rfl (by show ¬0 % 12 = 11; omega)
    dsimp only at e
    rw [e, step_le, zero_le]
    refine and_congr_right fun _ => ⟨fun h t ht => ?_, fun h => h ⟨0, hn⟩ le_rfl⟩
    have : t = ⟨0, hn⟩ := Fin.ext (by show t.val = 0; omega)
    rw [this]; exact h
  | succ n ih =>
    intro hn
    have hN : cfg0.N = 12 := N_0
    have e : (outsAt0 m c (n + 1) hn).2.2.2.2.2.2.2.2.2.1 = k0_pay1 (F := Ideal) (k0_pay39 (F := Ideal) (iblk m c 3 ⟨n + 1, hn⟩)) (outsAt0 m c n (by omega)).2.2.2.2.2.2.2.2.2.1 := by
      by_cases h1 : (n + 1) % 12 = 11
      · exact scrxC m c ⟨n + 1, hn⟩ (by show ¬(n + 1) % 12 = 0; omega) h1
      · exact scrxB m c ⟨n + 1, hn⟩ (by show ¬(n + 1) % 12 = 0; omega) h1
    rw [e, step_le, ih, and_assoc]
    refine and_congr_right fun _ => ⟨fun h t ht => ?_, fun h => ⟨fun t ht => h t (by omega), h ⟨n + 1, hn⟩ le_rfl⟩⟩
    rcases Nat.lt_or_ge t.val (n + 1) with h' | h'
    · exact h.1 t (by omega)
    · have : t = ⟨n + 1, hn⟩ := Fin.ext (by show t.val = n + 1; omega)
      rw [this]; exact h.2

end X

namespace D

/-- The absolute maximum so far: its upper bounds are those of what was there and of the block. -/
theorem step_le (blk : S1x512x3200.Idx → EReal) (scr : S16x3200.Idx → EReal) (b : EReal) :
    (∀ j, k0_pay2 (F := Ideal) (k0_pay40 (F := Ideal) blk) scr j ≤ b) ↔ (∀ j, scr j ≤ b) ∧ ∀ i, Scale.ab (blk i) ≤ b := by
  unfold k0_pay2
  try dsimp only
  rw [Scale.forall_shapeCast_le]
  have h := Scale.forall_mred_le (φ := .bf16) (shapeCast S32x16x3200 (absf (F := Ideal) (φ := .bf16) (k0_pay40 (F := Ideal) blk)) shapeCasts_S512x3200_S32x16x3200) 0xFF80#16
    reduces_S32x16x3200_S16x3200 (.inr rfl) rfl ofBits_neg_inf_bf16 b
  rw [Scale.forall_shapeCast_le] at h
  have h' : (∀ i, absf (F := Ideal) (φ := .bf16) (k0_pay40 (F := Ideal) blk) i ≤ b) ↔ ∀ i, Scale.ab (blk i) ≤ b :=
    Scale.forall_shapeCast_le (s := S1x512x3200) (t := S512x3200) (fun i => Scale.ab (blk i)) shapeCasts_S1x512x3200_S512x3200 b
  refine Iff.trans ?_ (and_congr_right fun _ => h.trans h')
  rw [← forall_and]
  exact forall_congr' fun j => max_le_iff

theorem zero_le (b : EReal) : (∀ j, k0_pay50 (F := Ideal) j ≤ b) ↔ 0 ≤ b := by
  unfold k0_pay50
  try dsimp only
  try rw [Scale.forall_shapeCast_le]
  have e : ∀ i, broadcast (α := EReal) S16x3200 (Scalar.ofBits (F := Ideal) .bf16 0x0000#16) i = 0 := fun i => ofBits_zero_bf16
  exact ⟨fun h => (e (ix2 ⟨0, by omega⟩ ⟨0, by omega⟩)).symm.trans_le (h (ix2 ⟨0, by omega⟩ ⟨0, by omega⟩)), fun h i => (e i).trans_le h⟩

/-- The last point's maximum over the scratch. -/
theorem all_le (scr : S16x3200.Idx → EReal) (b : EReal) : k0_pay5 (F := Ideal) scr ≤ b ↔ ∀ j, scr j ≤ b := by
  have h := Scale.forall_mred_le (φ := .f32) (shapeCast S1x16x3200 scr shapeCasts_S16x3200_S1x16x3200) 0xFF800000#32
    reduces_S1x16x3200_S1 (.inl rfl) rfl Scale.ofBits_neg_inf b
  rw [Scale.forall_shapeCast_le] at h
  refine Iff.trans ?_ h
  have e2 : k0_pay5 (F := Ideal) scr = multiReduction (F := Ideal) (φ := .f32) .maximumf [1, 2] S1 (shapeCast S1x16x3200 scr shapeCasts_S16x3200_S1x16x3200)
      0xFF800000#32 reduces_S1x16x3200_S1 (.inl rfl) rfl (Shape.reshapeEquiv shapeCasts_S1_S1x1x1 fun a => ⟨(![0, 0, 0] : Fin 3 → ℕ) a, inpos_S1x1x1_p0_0_0 a⟩) := by
    unfold k0_pay5 extractAt
    rfl
  rw [e2]
  refine ⟨fun H j => ?_, fun H => H _⟩
  have e : ∀ i j : S1.Idx, i = j := fun i j => funext fun a => by fin_cases a; exact Subsingleton.elim (α := Fin 1) _ _
  rw [e j _]
  exact H

/-- The scratch after point `n`: its upper bounds are those of zero and of every block so far. -/
theorem scr_le (c : Dev nD) (b : EReal) : ∀ n (hn : n < cfg0.N), (∀ j, (outsAt0 m c n hn).2.2.2.2.2.2.2.2.2.2 j ≤ b) ↔
    0 ≤ b ∧ ∀ t : Fin cfg0.N, t.val ≤ n → ∀ i, Scale.ab ((iblk m c 4 t : S1x512x3200.Idx → EReal) i) ≤ b := by
  intro n
  induction n with
  | zero =>
    intro hn
    have e := scrdyA m c ⟨0, hn⟩ rfl (by show ¬0 % 12 = 11; omega)
    dsimp only at e
    rw [e, step_le, zero_le]
    refine and_congr_right fun _ => ⟨fun h t ht => ?_, fun h => h ⟨0, hn⟩ le_rfl⟩
    have : t = ⟨0, hn⟩ := Fin.ext (by show t.val = 0; omega)
    rw [this]; exact h
  | succ n ih =>
    intro hn
    have hN : cfg0.N = 12 := N_0
    have e : (outsAt0 m c (n + 1) hn).2.2.2.2.2.2.2.2.2.2 = k0_pay2 (F := Ideal) (k0_pay40 (F := Ideal) (iblk m c 4 ⟨n + 1, hn⟩)) (outsAt0 m c n (by omega)).2.2.2.2.2.2.2.2.2.2 := by
      by_cases h1 : (n + 1) % 12 = 11
      · exact scrdyC m c ⟨n + 1, hn⟩ (by show ¬(n + 1) % 12 = 0; omega) h1
      · exact scrdyB m c ⟨n + 1, hn⟩ (by show ¬(n + 1) % 12 = 0; omega) h1
    rw [e, step_le, ih, and_assoc]
    refine and_congr_right fun _ => ⟨fun h t ht => ?_, fun h => ⟨fun t ht => h t (by omega), h ⟨n + 1, hn⟩ le_rfl⟩⟩
    rcases Nat.lt_or_ge t.val (n + 1) with h' | h'
    · exact h.1 t (by omega)
    · have : t = ⟨n + 1, hn⟩ := Fin.ext (by show t.val = n + 1; omega)
      rw [this]; exact h.2

end D

end Cert.KMIdeal.Value
-- ==== Proof.MPay.lean ====
/-
  The main call's payloads read at an index, over the extended reals.
-/
module
public import proofs.«01_k».proof.Proof.MExp
public import proofs.«01_k».proof.Proof.MSum
public import Idealize.ShloMosaic.Lib.Pipeline.ValueKit
@[expose] public section
set_option maxRecDepth 16384
noncomputable section
open Idealize.ShloMosaic Idealize.ShloMosaic.TcCoe Idealize.SL.Sem
namespace Cert.KMIdeal.Value
open Cert.KMIdeal Cert.KMIdeal.Gen
open Cert.Scale (kpow2 clip)

theorem pay36_eq (e : BitVec 32) : k0_pay36 (F := Ideal) e = kpow2 e := rfl
theorem pay37_eq (e : BitVec 32) : k0_pay37 (F := Ideal) e = kpow2 e := rfl
theorem pay38_eq (x : S16.Idx → EReal) : k0_pay38 (F := Ideal) (D.hist x) (D.out x) (D.raw x) = kpow2 (D.ex x) := by
  unfold k0_pay38 kpow2 Scale.kbias D.ex
  rfl

theorem pay39_apply (v : S1x512x1792.Idx → EReal) (r : Fin 512) (k : Fin 1792) : k0_pay39 (F := Ideal) v (ix2 r k) = v (ix3 0 r k) := by
  pointwise [k0_pay39]
theorem pay40_apply (v : S1x512x3200.Idx → EReal) (r : Fin 512) (k : Fin 3200) : k0_pay40 (F := Ideal) v (ix2 r k) = v (ix3 0 r k) := by
  pointwise [k0_pay40]

theorem pay41_apply (e : BitVec 32) (v : S1x512x1792.Idx → EReal) (r : Fin 512) (k : Fin 1792) :
    k0_pay41 (F := Ideal) e v (ix2 r k) = clip 0xC3E00000#32 0x43E00000#32 (v (ix3 0 r k)) (kpow2 (Scalar.subi 0#32 e)) := by
  rw [← pay39_apply v r k]
  unfold k0_pay41 clip kpow2 Scale.kbias
  generalize Scalar.subi 0#32 e = e
  generalize Scalar.addi 127#32 (Scalar.minsi 512#32 (Scalar.maxsi 4294966784#32 e)) = e
  generalize Scalar.select (Scalar.cmpi .sle e 0#32) (Scalar.ofBits (F := Ideal) .f32 0x00000000#32)
    (Scalar.select (Scalar.cmpi .sge e 255#32) (Scalar.ofBits (F := Ideal) .f32 0x7F800000#32) (Scalar.ofBits (F := Ideal) .f32 (Scalar.shli e 23#32))) = r
  rfl

theorem pay42_apply (e : BitVec 32) (v : S1x512x3200.Idx → EReal) (r : Fin 512) (k : Fin 3200) :
    k0_pay42 (F := Ideal) e v (ix2 r k) = v (ix3 0 r k) * kpow2 (Scalar.subi 0#32 e) := by
  rw [← pay40_apply v r k]
  unfold k0_pay42 kpow2 Scale.kbias
  generalize Scalar.subi 0#32 e = e
  generalize Scalar.addi 127#32 (Scalar.minsi 512#32 (Scalar.maxsi 4294966784#32 e)) = e
  generalize Scalar.select (Scalar.cmpi .sle e 0#32) (Scalar.ofBits (F := Ideal) .f32 0x00000000#32)
    (Scalar.select (Scalar.cmpi .sge e 255#32) (Scalar.ofBits (F := Ideal) .f32 0x7F800000#32) (Scalar.ofBits (F := Ideal) .f32 (Scalar.shli e 23#32))) = r
  rfl

theorem pay43_apply (e : BitVec 32) (v : S1x512x3200.Idx → EReal) (r : Fin 512) (k : Fin 3200) :
    k0_pay43 (F := Ideal) (k0_pay42 (F := Ideal) e v) (Scalar.ofBits (F := Ideal) .f32 0xC7600000#32) (Scalar.ofBits (F := Ideal) .f32 0x47600000#32) (ix2 r k)
      = clip 0xC7600000#32 0x47600000#32 (v (ix3 0 r k)) (kpow2 (Scalar.subi 0#32 e)) := by
  unfold clip
  rw [← pay42_apply e v r k]
  rfl

theorem pay44_apply (v : S512x1792.Idx → EReal) (y : S1x512x1792.Idx) : k0_pay44 (F := Ideal) v y = v (ix2 (y 1) (y 2)) := by
  pointwise [k0_pay44]
theorem pay45_apply (v : S512x3200.Idx → EReal) (l h : EReal) (y : S1x512x3200.Idx) :
    k0_pay45 (F := Ideal) v l h y = k0_pay43 (F := Ideal) v l h (ix2 (y 1) (y 2)) := by
  unfold k0_pay45
  generalize k0_pay43 (F := Ideal) v l h = u
  pointwise

theorem pay46_apply (s u : EReal) (v : S512x1792.Idx → EReal) (w : S1792x3200.Idx → EReal) (a : Fin 64) (b : Fin 8) (d : Fin 3200) :
    k0_pay46 (F := Ideal) s u v w (ix3 a b d) = (∑ k : Fin 1792, v (ix2 ⟨a.val * 8 + b.val, by omega⟩ k) * w (ix2 k d)) * (s * u) := by
  pointwise [k0_pay46]

theorem pay47_apply (s u : EReal) (v : S512x3200.Idx → EReal) (l h : EReal) (w : S1792x3200.Idx → EReal) (a : Fin 64) (b : Fin 8) (d : Fin 1792) :
    k0_pay47 (F := Ideal) s u v l h w (ix3 a b d)
      = (∑ k : Fin 3200, k0_pay43 (F := Ideal) v l h (ix2 ⟨a.val * 8 + b.val, by omega⟩ k) * w (ix2 d k)) * (u * s) := by
  unfold k0_pay47
  generalize k0_pay43 (F := Ideal) v l h = g
  pointwise

theorem pay48_apply (i : S1792x3200.Idx) : k0_pay48 (F := Ideal) i = 0 := by
  unfold k0_pay48
  exact Scale.ofBits_zero

theorem pay51_apply (v : S512x1792.Idx → EReal) (g : S512x3200.Idx → EReal) (l h : EReal) (p : S1792x3200.Idx → EReal) (a : Fin 1792) (b : Fin 3200) :
    k0_pay51 (F := Ideal) v g l h p (ix2 a b) = p (ix2 a b) + ∑ k : Fin 512, v (ix2 k a) * k0_pay43 (F := Ideal) g l h (ix2 k b) := by
  unfold k0_pay51
  generalize k0_pay43 (F := Ideal) g l h = q
  pointwise

theorem pay3_apply (s u : EReal) (p : S1792x3200.Idx → EReal) (i : S1792x3200.Idx) : k0_pay3 (F := Ideal) s u p i = p i * (s * u) := by
  pointwise [k0_pay3]

end Cert.KMIdeal.Value
-- ==== Proof.MValue.lean ====
/-
  What the main call leaves, over the extended reals: its nine results as functions of its arguments.
-/
module
public import proofs.«01_k».proof.Proof.MMax
public import proofs.«01_k».proof.Proof.MPay
@[expose] public section
set_option maxRecDepth 16384
noncomputable section
open Idealize.ShloMosaic Idealize.ShloMosaic.TcCoe Idealize.SL.Sem
open Idealize.ShloMosaic.Pipeline (Dat)
namespace Cert.KMIdeal.Value
open Cert.KMIdeal Cert.KMIdeal.Gen
open Cert.Scale (kpow2 kexp hmax clip)
variable (m : (ℓ : Loc nD τ sig) → Buf (Elt Ideal) ℓ)

/-! ## The arguments, the exponents, the codes -/

abbrev ax (c : Dev nD) : S6x1024x1792.Idx → EReal := m ((c : Thread nD τ).loc main_arg0)
abbrev aw (c : Dev nD) : S1792x3200.Idx → EReal := m ((c : Thread nD τ).loc main_arg1)
abbrev ady (c : Dev nD) : S6x1024x3200.Idx → EReal := m ((c : Thread nD τ).loc main_arg2)
abbrev hx (c : Dev nD) : S16.Idx → EReal := m ((c : Thread nD τ).loc main_arg3)
abbrev hw (c : Dev nD) : S16.Idx → EReal := m ((c : Thread nD τ).loc main_arg4)
abbrev hdy (c : Dev nD) : S16.Idx → EReal := m ((c : Thread nD τ).loc main_arg5)

/-- The three exponents. -/
abbrev ex (c : Dev nD) : BitVec 32 := kexp (hmax fun k => hx m c (ix1 k)) 0x3B124925#32
abbrev ew (c : Dev nD) : BitVec 32 := kexp (hmax fun k => hw m c (ix1 k)) 0x3B124925#32
abbrev edy (c : Dev nD) : BitVec 32 := kexp (hmax fun k => hdy m c (ix1 k)) 0x37924925#32

/-- The codes. -/
abbrev cx (c : Dev nD) : S6x1024x1792.Idx → EReal := fun i => clip 0xC3E00000#32 0x43E00000#32 (ax m c i) (kpow2 (Scalar.subi 0#32 (ex m c)))
abbrev cdy (c : Dev nD) : S6x1024x3200.Idx → EReal := fun i => clip 0xC7600000#32 0x47600000#32 (ady m c i) (kpow2 (Scalar.subi 0#32 (edy m c)))

/-! ## The blocks -/

theorem idx0 : ∀ t : Fin cfg0.N, win0_0.index t = ![0] := (by decide +kernel : ∀ t : Fin grid0.N, _)
theorem idx1 : ∀ t : Fin cfg0.N, win0_1.index t = ![0] := (by decide +kernel : ∀ t : Fin grid0.N, _)
theorem idx2 : ∀ t : Fin cfg0.N, win0_2.index t = ![0] := (by decide +kernel : ∀ t : Fin grid0.N, _)
theorem idx3 : ∀ t : Fin cfg0.N, win0_3.index t = ![t.val / 2, t.val % 2, 0] := (by decide +kernel : ∀ t : Fin grid0.N, _)
theorem idx4 : ∀ t : Fin cfg0.N, win0_4.index t = ![t.val / 2, t.val % 2, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0, 0] := (by decide +kernel : ∀ t : Fin grid0.N, _)
theorem idx7 : ∀ t : Fin cfg0.N, win0_7.index t = ![t.val, 0, 0] := (by decide +kernel : ∀ t : Fin grid0.N, _)
theorem idx9 : ∀ t : Fin cfg0.N, win0_9.index t = ![t.val / 2, t.val % 2, 0] := (by decide +kernel : ∀ t : Fin grid0.N, _)
theorem idx10 : ∀ t : Fin cfg0.N, win0_10.index t = ![t.val / 2, t.val % 2, 0] := (by decide +kernel : ∀ t : Fin grid0.N, _)

theorem lt12 (t : Fin cfg0.N) : t.val < 12 := by have := t.isLt; have hN : cfg0.N = 12 := N_0; omega

theorem iblk0 (c : Dev nD) (t : Fin cfg0.N) : (iblk m c 0 t : S16.Idx → EReal) = hx m c := by
  funext y
  show (iblk m c 0 t : S16.Idx → EReal) y = m ((c : Thread nD τ).loc main_arg3) y
  blk_point [iblk, V, idx0 t]

theorem iblk1 (c : Dev nD) (t : Fin cfg0.N) : (iblk m c 1 t : S16.Idx → EReal) = hw m c := by
  funext y
  show (iblk m c 1 t : S16.Idx → EReal) y = m ((c : Thread nD τ).loc main_arg4) y
  blk_point [iblk, V, idx1 t]

theorem iblk2 (c : Dev nD) (t : Fin cfg0.N) : (iblk m c 2 t : S16.Idx → EReal) = hdy m c := by
  funext y
  show (iblk m c 2 t : S16.Idx → EReal) y = m ((c : Thread nD τ).loc main_arg5) y
  blk_point [iblk, V, idx2 t]

theorem iblk5 (c : Dev nD) (t : Fin cfg0.N) : (iblk m c 5 t : S1792x3200.Idx → EReal) = aw m c := by
  funext y
  show (iblk m c 5 t : S1792x3200.Idx → EReal) y = m ((c : Thread nD τ).loc main_arg1) y
  blk_point [iblk, V, idx5 t]

/-- Row `r` of point `t`'s block is token `512 t + r`. -/
theorem iblk3 (c : Dev nD) (t : Fin cfg0.N) (r : Fin 512) (k : Fin 1792) :
    (iblk m c 3 t : S1x512x1792.Idx → EReal) (ix3 0 r k) = Sum.row (ax m c) (t.val * 512 + r.val) (by have := lt12 t; omega) k := by
  have ht := lt12 t
  unfold Sum.row
  show (iblk m c 3 t : S1x512x1792.Idx → EReal) (ix3 0 r k) = m ((c : Thread nD τ).loc main_arg0) _
  blk_point [iblk, V, idx3 t]

/-- The same block read where output window 9 puts it. -/
theorem iblk3_emb (c : Dev nD) (t : Fin cfg0.N) (y : S1x512x1792.Idx) :
    (iblk m c 3 t : S1x512x1792.Idx → EReal) y = m ((c : Thread nD τ).loc main_arg0) (((cfg0.win 9).blk t).view.emb y) := by
  blk_point [iblk, V, idx3 t, idx9 t]

/-- Row `r` of point `t`'s block is token `512 t + r`. -/
theorem iblk4 (c : Dev nD) (t : Fin cfg0.N) (r : Fin 512) (k : Fin 3200) :
    (iblk m c 4 t : S1x512x3200.Idx → EReal) (ix3 0 r k) = Sum.row (ady m c) (t.val * 512 + r.val) (by have := lt12 t; omega) k := by
  have ht := lt12 t
  unfold Sum.row
  show (iblk m c 4 t : S1x512x3200.Idx → EReal) (ix3 0 r k) = m ((c : Thread nD τ).loc main_arg2) _
  blk_point [iblk, V, idx4 t]

/-- The same block read where output window 10 puts it. -/
theorem iblk4_emb (c : Dev nD) (t : Fin cfg0.N) (y : S1x512x3200.Idx) :
    (iblk m c 4 t : S1x512x3200.Idx → EReal) y = m ((c : Thread nD τ).loc main_arg2) (((cfg0.win 10).blk t).view.emb y) := by
  blk_point [iblk, V, idx4 t, idx10 t]

/-! ## The point's values by the arguments -/

theorem sx_eq (c : Dev nD) (t : Fin cfg0.N) : sx m c t = kpow2 (ex m c) := by
  unfold sx; rw [pay36_eq, X.ex_eq, iblk0]
theorem sw_eq (c : Dev nD) (t : Fin cfg0.N) : sw m c t = kpow2 (ew m c) := by
  unfold sw; rw [pay37_eq, W.ex_eq, iblk1]
theorem sdy_eq (c : Dev nD) (t : Fin cfg0.N) : sdy m c t = kpow2 (edy m c) := by
  unfold sdy; rw [pay38_eq, D.ex_eq, iblk2]

theorem xc_at (c : Dev nD) (t : Fin cfg0.N) (r : Fin 512) (k : Fin 1792) :
    xc m c t (ix2 r k) = clip 0xC3E00000#32 0x43E00000#32 ((iblk m c 3 t : S1x512x1792.Idx → EReal) (ix3 0 r k)) (kpow2 (Scalar.subi 0#32 (ex m c))) := by
  unfold xc; rw [pay41_apply, X.ex_eq, iblk0]
theorem dyc_at (c : Dev nD) (t : Fin cfg0.N) (r : Fin 512) (k : Fin 3200) :
    k0_pay43 (F := Ideal) (dyr m c t) lo hi (ix2 r k)
      = clip 0xC7600000#32 0x47600000#32 ((iblk m c 4 t : S1x512x3200.Idx → EReal) (ix3 0 r k)) (kpow2 (Scalar.subi 0#32 (edy m c))) := by
  unfold dyr lo hi; rw [pay43_apply, D.ex_eq, iblk2]

theorem xc_row (c : Dev nD) (t : Fin cfg0.N) (r : Fin 512) (k : Fin 1792) :
    xc m c t (ix2 r k) = Sum.row (cx m c) (t.val * 512 + r.val) (by have := lt12 t; omega) k := by
  rw [xc_at, iblk3]
theorem dyc_row (c : Dev nD) (t : Fin cfg0.N) (r : Fin 512) (k : Fin 3200) :
    k0_pay43 (F := Ideal) (dyr m c t) lo hi (ix2 r k) = Sum.row (cdy m c) (t.val * 512 + r.val) (by have := lt12 t; omega) k := by
  rw [dyc_at, iblk4]

theorem y_all (c : Dev nD) (t : Fin cfg0.N) : (outsAt0 m c t.val t.isLt).1 = k0_pay46 (F := Ideal) (sx m c t) (sw m c t) (xc m c t) (iblk m c 5 t) := by
  by_cases h0 : t.val % 12 = 0
  · exact yA m c t h0 (by omega)
  · by_cases h1 : t.val % 12 = 11
    · exact yC m c t h0 h1
    · exact yB m c t h0 h1

theorem dx_all (c : Dev nD) (t : Fin cfg0.N) : (outsAt0 m c t.val t.isLt).2.1 = k0_pay47 (F := Ideal) (sw m c t) (sdy m c t) (dyr m c t) lo hi (iblk m c 5 t) := by
  by_cases h0 : t.val % 12 = 0
  · exact dxA m c t h0 (by omega)
  · by_cases h1 : t.val % 12 = 11
    · exact dxC m c t h0 h1
    · exact dxB m c t h0 h1

theorem xcodes_all (c : Dev nD) (t : Fin cfg0.N) : (outsAt0 m c t.val t.isLt).2.2.2.1 = k0_pay44 (F := Ideal) (xc m c t) := by
  by_cases h0 : t.val % 12 = 0
  · exact xcodesA m c t h0 (by omega)
  · by_cases h1 : t.val % 12 = 11
    · exact xcodesC m c t h0 h1
    · exact xcodesB m c t h0 h1

theorem dycodes_all (c : Dev nD) (t : Fin cfg0.N) : (outsAt0 m c t.val t.isLt).2.2.2.2.1 = k0_pay45 (F := Ideal) (dyr m c t) lo hi := by
  by_cases h0 : t.val % 12 = 0
  · exact dycodesA m c t h0 (by omega)
  · by_cases h1 : t.val % 12 = 11
    · exact dycodesC m c t h0 h1
    · exact dycodesB m c t h0 h1

/-! ## The products by tokens -/

/-- A row's number may be written in any way. -/
theorem row_same {k : ℕ} (x : (⟨3, ![6, 1024, k]⟩ : Shape).Idx → EReal) {n n' : ℕ} (e : n = n') (h : n < 6144) (h' : n' < 6144) (d : Fin k) :
    Sum.row x n h d = Sum.row x n' h' d := by
  subst e; rfl

/-- Row groups of point `t`'s block of `y`. -/
theorem y_at (c : Dev nD) (t : Fin cfg0.N) (a : Fin 64) (b : Fin 8) (d : Fin 3200) (p : Fin 768) (e0 : p.val = t.val * 64 + a.val) :
    k0_pay46 (F := Ideal) (sx m c t) (sw m c t) (xc m c t) (iblk m c 5 t) (ix3 a b d)
      = Sum.y (cx m c) (aw m c) (kpow2 (ex m c) * kpow2 (ew m c)) p b d := by
  rw [pay46_apply, sx_eq, sw_eq, iblk5]
  unfold Sum.y
  have e : ∀ k, xc m c t (ix2 ⟨a.val * 8 + b.val, by omega⟩ k) = Sum.row (cx m c) (p.val * 8 + b.val) (by omega) k := fun k => by
    rw [xc_row]; exact row_same _ (by show t.val * 512 + (a.val * 8 + b.val) = _; omega) _ _ k
  simp only [e]

/-- Row groups of point `t`'s block of `dx`. -/
theorem dx_at (c : Dev nD) (t : Fin cfg0.N) (a : Fin 64) (b : Fin 8) (d : Fin 1792) (p : Fin 768) (e0 : p.val = t.val * 64 + a.val) :
    k0_pay47 (F := Ideal) (sw m c t) (sdy m c t) (dyr m c t) lo hi (iblk m c 5 t) (ix3 a b d)
      = Sum.dx (cdy m c) (aw m c) (kpow2 (edy m c) * kpow2 (ew m c)) p b d := by
  rw [pay47_apply, sdy_eq, sw_eq, iblk5]
  unfold Sum.dx
  have e : ∀ k, k0_pay43 (F := Ideal) (dyr m c t) lo hi (ix2 ⟨a.val * 8 + b.val, by omega⟩ k) = Sum.row (cdy m c) (p.val * 8 + b.val) (by omega) k := fun k => by
    rw [dyc_row]; exact row_same _ (by show t.val * 512 + (a.val * 8 + b.val) = _; omega) _ _ k
  simp only [e]

theorem y_pt (c : Dev nD) (t : Fin cfg0.N) (y : S64x8x3200.Idx) (i : S768x8x3200.Idx)
    (e0 : (i 0).val = t.val * 64 + (y 0).val) (e1 : (i 1).val = (y 1).val) (e2 : (i 2).val = (y 2).val) :
    k0_pay46 (F := Ideal) (sx m c t) (sw m c t) (xc m c t) (iblk m c 5 t) y
      = Sum.y (cx m c) (aw m c) (kpow2 (ex m c) * kpow2 (ew m c)) (i 0) (i 1) (i 2) := by
  obtain ⟨a, b, d, rfl⟩ : ∃ a b d, y = ix3 a b d := ⟨y 0, y 1, y 2, eq_ix3 y⟩
  obtain ⟨p, q, r, rfl⟩ : ∃ p q r, i = ix3 p q r := ⟨i 0, i 1, i 2, eq_ix3 i⟩
  obtain rfl : q = b := Fin.ext e1
  obtain rfl : r = d := Fin.ext e2
  exact y_at m c t a q r p e0

theorem dx_pt (c : Dev nD) (t : Fin cfg0.N) (y : S64x8x1792.Idx) (i : S768x8x1792.Idx)
    (e0 : (i 0).val = t.val * 64 + (y 0).val) (e1 : (i 1).val = (y 1).val) (e2 : (i 2).val = (y 2).val) :
    k0_pay47 (F := Ideal) (sw m c t) (sdy m c t) (dyr m c t) lo hi (iblk m c 5 t) y
      = Sum.dx (cdy m c) (aw m c) (kpow2 (edy m c) * kpow2 (ew m c)) (i 0) (i 1) (i 2) := by
  obtain ⟨a, b, d, rfl⟩ : ∃ a b d, y = ix3 a b d := ⟨y 0, y 1, y 2, eq_ix3 y⟩
  obtain ⟨p, q, r, rfl⟩ : ∃ p q r, i = ix3 p q r := ⟨i 0, i 1, i 2, eq_ix3 i⟩
  obtain rfl : q = b := Fin.ext e1
  obtain rfl : r = d := Fin.ext e2
  exact dx_at m c t a q r p e0

/-- An index of a block whose first axis has one entry. -/
theorem one_ix3 {n p : ℕ} (y : (⟨3, ![1, n, p]⟩ : Shape).Idx) : ix3 (0 : Fin 1) (y 1) (y 2) = y :=
  (congrArg (fun z : Fin 1 => ix3 z (y 1) (y 2)) (Subsingleton.elim (α := Fin 1) 0 (y 0))).trans (eq_ix3 y).symm

theorem xcodes_pt (c : Dev nD) (t : Fin cfg0.N) (y : S1x512x1792.Idx) :
    k0_pay44 (F := Ideal) (xc m c t) y = cx m c (((cfg0.win 9).blk t).view.emb y) := by
  obtain ⟨a, b, rfl⟩ : ∃ a b, y = ix3 (0 : Fin 1) a b := ⟨y 1, y 2, (one_ix3 y).symm⟩
  have e : k0_pay44 (F := Ideal) (xc m c t) (ix3 (0 : Fin 1) a b) = xc m c t (ix2 a b) := pay44_apply _ _
  rw [e, xc_at, iblk3_emb]

theorem dycodes_pt (c : Dev nD) (t : Fin cfg0.N) (y : S1x512x3200.Idx) :
    k0_pay45 (F := Ideal) (dyr m c t) lo hi y = cdy m c (((cfg0.win 10).blk t).view.emb y) := by
  obtain ⟨a, b, rfl⟩ : ∃ a b, y = ix3 (0 : Fin 1) a b := ⟨y 1, y 2, (one_ix3 y).symm⟩
  have e : k0_pay45 (F := Ideal) (dyr m c t) lo hi (ix3 (0 : Fin 1) a b) = k0_pay43 (F := Ideal) (dyr m c t) lo hi (ix2 a b) := pay45_apply _ _ _ _
  rw [e, dyc_at, iblk4_emb]

/-- `y`. -/
theorem arr6 (c : Dev nD) : (dats m 0 c).arrAt 6 cfg0.N = fun i : S768x8x3200.Idx =>
    Sum.y (cx m c) (aw m c) (kpow2 (ex m c) * kpow2 (ew m c)) (i 0) (i 1) (i 2) := by
  refine (dats m 0 c).arrAt_eq_of_covers 6 _ (by decide +kernel) fun t hf y => ?_
  have e0 : ((((cfg0.win 6).blk t).view.emb y) 0 : ℕ) = t.val * 64 + ((y : S64x8x3200.Idx) 0).val := by blk_simp [idx6 t]
  have e1 : ((((cfg0.win 6).blk t).view.emb y) 1 : ℕ) = ((y : S64x8x3200.Idx) 1).val := by blk_simp [idx6 t]
  have e2 : ((((cfg0.win 6).blk t).view.emb y) 2 : ℕ) = ((y : S64x8x3200.Idx) 2).val := by blk_simp [idx6 t]
  generalize ((cfg0.win 6).blk t).view.emb y = i at e0 e1 e2 ⊢
  blk_simp
  rw [after0_6, y_all]
  exact y_pt m c t y i e0 e1 e2

/-- `dx`. -/
theorem arr7 (c : Dev nD) : (dats m 0 c).arrAt 7 cfg0.N = fun i : S768x8x1792.Idx =>
    Sum.dx (cdy m c) (aw m c) (kpow2 (edy m c) * kpow2 (ew m c)) (i 0) (i 1) (i 2) := by
  refine (dats m 0 c).arrAt_eq_of_covers 7 _ (by decide +kernel) fun t hf y => ?_
  have e0 : ((((cfg0.win 7).blk t).view.emb y) 0 : ℕ) = t.val * 64 + ((y : S64x8x1792.Idx) 0).val := by blk_simp [idx7 t]
  have e1 : ((((cfg0.win 7).blk t).view.emb y) 1 : ℕ) = ((y : S64x8x1792.Idx) 1).val := by blk_simp [idx7 t]
  have e2 : ((((cfg0.win 7).blk t).view.emb y) 2 : ℕ) = ((y : S64x8x1792.Idx) 2).val := by blk_simp [idx7 t]
  generalize ((cfg0.win 7).blk t).view.emb y = i at e0 e1 e2 ⊢
  blk_simp
  rw [after0_7, dx_all]
  exact dx_pt m c t y i e0 e1 e2

/-- The codes. -/
theorem arr9 (c : Dev nD) : (dats m 0 c).arrAt 9 cfg0.N = cx m c := by
  refine (dats m 0 c).arrAt_eq_of_covers 9 _ (by decide +kernel) fun t hf y => ?_
  blk_simp
  rw [after0_9, xcodes_all]
  exact xcodes_pt m c t y

/-- The codes. -/
theorem arr10 (c : Dev nD) : (dats m 0 c).arrAt 10 cfg0.N = cdy m c := by
  refine (dats m 0 c).arrAt_eq_of_covers 10 _ (by decide +kernel) fun t hf y => ?_
  blk_simp
  rw [after0_10, dycodes_all]
  exact dycodes_pt m c t y

/-! ## `dw`: the sum over the tokens, block by block -/

/-- One token's term. -/
def term (c : Dev nD) (a : Fin 1792) (b : Fin 3200) (n : ℕ) : EReal :=
  if h : n < 6144 then Sum.row (cx m c) n h a * Sum.row (cdy m c) n h b else 0

theorem step_at (c : Dev nD) (t : Fin cfg0.N) (p : S1792x3200.Idx → EReal) (a : Fin 1792) (b : Fin 3200) :
    k0_pay51 (F := Ideal) (xc m c t) (dyr m c t) lo hi p (ix2 a b) = p (ix2 a b) + ∑ k ∈ Finset.range 512, term m c a b (t.val * 512 + k) := by
  have ht := lt12 t
  rw [pay51_apply, Finset.sum_range]
  refine congrArg (_ + ·) (Finset.sum_congr rfl fun k _ => ?_)
  rw [xc_row, dyc_row]
  unfold term
  rw [dif_pos (by omega)]

theorem dw_at (c : Dev nD) (a : Fin 1792) (b : Fin 3200) : ∀ n (hn : n < cfg0.N), n < 11 →
    (outsAt0 m c n hn).2.2.1 (ix2 a b) = ∑ k ∈ Finset.range ((n + 1) * 512), term m c a b k := by
  intro n
  induction n with
  | zero =>
    intro hn _
    have e := dwA m c ⟨0, hn⟩ rfl (by show ¬0 % 12 = 11; omega)
    dsimp only at e
    rw [e, step_at, pay48_apply, zero_add]
    refine Finset.sum_congr rfl fun k _ => congrArg _ ?_
    show 0 * 512 + k = k
    omega
  | succ n ih =>
    intro hn h11
    have e := dwB m c ⟨n + 1, hn⟩ (by show ¬(n + 1) % 12 = 0; omega) (by show ¬(n + 1) % 12 = 11; omega)
    dsimp only at e
    rw [e, step_at]
    have ih' := ih (by omega) (by omega)
    rw [show (n + 1 + 1) * 512 = (n + 1) * 512 + 512 by omega, Finset.sum_range_add]
    exact congrArg (· + _) ih'

/-- The sum of all the terms. -/
theorem all_terms (c : Dev nD) (a : Fin 1792) (b : Fin 3200) (s : EReal) :
    (∑ k ∈ Finset.range (11 * 512 + 512), term m c a b k) * s = Sum.dw (cx m c) (cdy m c) s a b := by
  unfold Sum.dw
  have e : ∀ n : Fin 6144, term m c a b n.val = Sum.row (cx m c) n.val n.isLt a * Sum.row (cdy m c) n.val n.isLt b := fun n => by
    unfold term; rw [dif_pos n.isLt]
  rw [show 11 * 512 + 512 = 6144 by omega, Finset.sum_range]
  simp only [e]

/-- The last point's block of `dw`. -/
theorem dw_pt (c : Dev nD) (j : S1792x3200.Idx) :
    k0_pay3 (F := Ideal) (sx m c t0_11) (sdy m c t0_11) (k0_pay51 (F := Ideal) (xc m c t0_11) (dyr m c t0_11) lo hi (was m c t0_11).2.2.1) j
      = Sum.dw (cx m c) (cdy m c) (kpow2 (ex m c) * kpow2 (edy m c)) (j 0) (j 1) := by
  obtain ⟨a, b, rfl⟩ : ∃ a b, j = ix2 a b := ⟨j 0, j 1, eq_ix2 j⟩
  have e : (was m c t0_11).2.2.1 (ix2 a b) = ∑ k ∈ Finset.range (11 * 512), term m c a b k :=
    dw_at m c a b 10 (by show 10 < 12; omega) (by omega)
  have e3 : (∑ k ∈ Finset.range 512, term m c a b (t0_11.val * 512 + k)) = ∑ k ∈ Finset.range 512, term m c a b (11 * 512 + k) := rfl
  rw [pay3_apply, sx_eq, sdy_eq, step_at, e, e3, ← Finset.sum_range_add, all_terms]
  rfl

/-- `dw`. -/
theorem arr8 (c : Dev nD) : (dats m 0 c).arrAt 8 cfg0.N = fun i : S1792x3200.Idx =>
    Sum.dw (cx m c) (cdy m c) (kpow2 (ex m c) * kpow2 (edy m c)) (i 0) (i 1) := by
  refine (dats m 0 c).arrAt_eq_of_after_last 8 t0_11 (by decide +kernel) _ fun j => ?_
  blk_simp
  rw [after0_8, dwC m c t0_11 (by show ¬11 % 12 = 0; omega) (by show 11 % 12 = 11; omega)]
  exact dw_pt m c j

/-! ## The histories and the scales -/

/-- The new history. -/
theorem arr11 (c : Dev nD) : ∃ v : EReal, (∀ b, v ≤ b ↔ ∀ i, Scale.ab (ax m c i) ≤ b) ∧
    (dats m 0 c).arrAt 11 cfg0.N = Scale.shift (hx m c) v := by
  refine ⟨k0_pay4 (F := Ideal) (outsAt0 m c t0_11.val t0_11.isLt).2.2.2.2.2.2.2.2.2.1, fun b => ?_, ?_⟩
  · rw [X.all_le, X.scr_le]
    refine ⟨fun h i => ?_, fun h => ⟨(Scale.ab_nonneg _).trans (h (ix3 ⟨0, by omega⟩ ⟨0, by omega⟩ ⟨0, by omega⟩)), fun t _ y => ?_⟩⟩
    · obtain ⟨t, _, hi⟩ := Pipeline.Window.Covers.cover _ (by decide +kernel : (cfg0.win 9).Covers) (Memref.isWhole_whole _) i
      obtain ⟨y, hy⟩ := View.exists_emb_of_mem_set _ hi
      have ht := lt12 t
      have := h.2 t (by show t.val ≤ 11; omega) y
      rw [iblk3_emb m c t y] at this
      rwa [hy] at this
    · rw [iblk3_emb m c t y]
      exact h _
  · refine (dats m 0 c).arrAt_eq_of_after_last 11 t0_11 (by decide +kernel) _ fun j => ?_
    blk_simp
    rw [after0_11]
    refine (nhxC m c t0_11 (by show ¬11 % 12 = 0; omega) (by show 11 % 12 = 11; omega) j).trans ?_
    rw [iblk0]

/-- The new history. -/
theorem arr12 (c : Dev nD) : ∃ v : EReal, (∀ b, v ≤ b ↔ ∀ i, Scale.ab (ady m c i) ≤ b) ∧
    (dats m 0 c).arrAt 12 cfg0.N = Scale.shift (hdy m c) v := by
  refine ⟨k0_pay5 (F := Ideal) (outsAt0 m c t0_11.val t0_11.isLt).2.2.2.2.2.2.2.2.2.2, fun b => ?_, ?_⟩
  · rw [D.all_le, D.scr_le]
    refine ⟨fun h i => ?_, fun h => ⟨(Scale.ab_nonneg _).trans (h (ix3 ⟨0, by omega⟩ ⟨0, by omega⟩ ⟨0, by omega⟩)), fun t _ y => ?_⟩⟩
    · obtain ⟨t, _, hi⟩ := Pipeline.Window.Covers.cover _ (by decide +kernel : (cfg0.win 10).Covers) (Memref.isWhole_whole _) i
      obtain ⟨y, hy⟩ := View.exists_emb_of_mem_set _ hi
      have ht := lt12 t
      have := h.2 t (by show t.val ≤ 11; omega) y
      rw [iblk4_emb m c t y] at this
      rwa [hy] at this
    · rw [iblk4_emb m c t y]
      exact h _
  · refine (dats m 0 c).arrAt_eq_of_after_last 12 t0_11 (by decide +kernel) _ fun j => ?_
    blk_simp
    rw [after0_12]
    refine (nhdyC m c t0_11 (by show ¬11 % 12 = 0; omega) (by show 11 % 12 = 11; omega) j).trans ?_
    rw [iblk2]

/-- The scale. -/
theorem arr13 (c : Dev nD) : (dats m 0 c).arrAt 13 cfg0.N = fun _ : S1.Idx => kpow2 (ex m c) := by
  refine (dats m 0 c).arrAt_eq_of_after_last 13 t0_11 (by decide +kernel) _ fun j => ?_
  blk_simp
  rw [after0_13]
  exact (xsC m c t0_11 (by show ¬11 % 12 = 0; omega) (by show 11 % 12 = 11; omega) j).trans (sx_eq m c t0_11)

/-- The scale. -/
theorem arr14 (c : Dev nD) : (dats m 0 c).arrAt 14 cfg0.N = fun _ : S1.Idx => kpow2 (edy m c) := by
  refine (dats m 0 c).arrAt_eq_of_after_last 14 t0_11 (by decide +kernel) _ fun j => ?_
  blk_simp
  rw [after0_14]
  exact (dysC m c t0_11 (by show ¬11 % 12 = 0; omega) (by show 11 % 12 = 11; omega) j).trans (sdy_eq m c t0_11)

end Cert.KMIdeal.Value
-- ==== Proof.MRef.lean ====
/-
  The main call's value claim: the kernel's nine results are those of its reference.
-/
module
public import proofs.«01_k».proof.Defs
public import proofs.«01_k».proof.Proof.MRefVal
public import proofs.«01_k».proof.Proof.MValue
@[expose] public section
set_option maxRecDepth 16384
noncomputable section
open Idealize.ShloMosaic Idealize.ShloMosaic.TcCoe Idealize.SL.Sem
namespace Cert.Proof
open Cert.Scale (kpow2 kexp hmax clip)

variable (m : (ℓ : Loc Cert.KMIdeal.nD Cert.KMIdeal.τ Cert.KMIdeal.sig) → Buf (Elt Ideal) ℓ)
  (m' : (ℓ : Loc Cert.RMIdeal.nD Cert.RMIdeal.τ Cert.RMIdeal.sig) → Buf (Elt Ideal) ℓ)

/-! ## The same arguments give the same scales and codes -/

theorem ex_same (c : Dev Cert.KMIdeal.nD) (e : Cert.RMIdeal.Value.hx m' c = Cert.KMIdeal.Value.hx m c) :
    Cert.RMIdeal.Value.ex m' c = Cert.KMIdeal.Value.ex m c :=
  congrArg (fun h : Cert.KMIdeal.S16.Idx → EReal => kexp (hmax fun k => h (ix1 k)) 0x3B124925#32) e
theorem ew_same (c : Dev Cert.KMIdeal.nD) (e : Cert.RMIdeal.Value.hw m' c = Cert.KMIdeal.Value.hw m c) :
    Cert.RMIdeal.Value.ew m' c = Cert.KMIdeal.Value.ew m c :=
  congrArg (fun h : Cert.KMIdeal.S16.Idx → EReal => kexp (hmax fun k => h (ix1 k)) 0x3B124925#32) e
theorem edy_same (c : Dev Cert.KMIdeal.nD) (e : Cert.RMIdeal.Value.hdy m' c = Cert.KMIdeal.Value.hdy m c) :
    Cert.RMIdeal.Value.edy m' c = Cert.KMIdeal.Value.edy m c :=
  congrArg (fun h : Cert.KMIdeal.S16.Idx → EReal => kexp (hmax fun k => h (ix1 k)) 0x37924925#32) e
theorem cx_same (c : Dev Cert.KMIdeal.nD) (e : Cert.RMIdeal.Value.ax m' c = Cert.KMIdeal.Value.ax m c)
    (h : Cert.RMIdeal.Value.ex m' c = Cert.KMIdeal.Value.ex m c) : Cert.RMIdeal.Value.cx m' c = Cert.KMIdeal.Value.cx m c :=
  congrArg₂ (fun (a : Cert.KMIdeal.S6x1024x1792.Idx → EReal) (n : BitVec 32) =>
    fun i => clip 0xC3E00000#32 0x43E00000#32 (a i) (kpow2 (Scalar.subi 0#32 n))) e h
theorem cdy_same (c : Dev Cert.KMIdeal.nD) (e : Cert.RMIdeal.Value.ady m' c = Cert.KMIdeal.Value.ady m c)
    (h : Cert.RMIdeal.Value.edy m' c = Cert.KMIdeal.Value.edy m c) : Cert.RMIdeal.Value.cdy m' c = Cert.KMIdeal.Value.cdy m c :=
  congrArg₂ (fun (a : Cert.KMIdeal.S6x1024x3200.Idx → EReal) (n : BitVec 32) =>
    fun i => clip 0xC7600000#32 0x47600000#32 (a i) (kpow2 (Scalar.subi 0#32 n))) e h

/-! ## The results, one by one -/

section results
variable (c : Dev Cert.KMIdeal.nD)

theorem y_same (ec : Cert.RMIdeal.Value.cx m' c = Cert.KMIdeal.Value.cx m c) (ea : Cert.RMIdeal.Value.aw m' c = Cert.KMIdeal.Value.aw m c)
    (ee : Cert.RMIdeal.Value.ex m' c = Cert.KMIdeal.Value.ex m c) (ew : Cert.RMIdeal.Value.ew m' c = Cert.KMIdeal.Value.ew m c) :
    (Cert.RMIdeal.Gen.dats m' 0 c).arrAt 8 Cert.RMIdeal.cfg0.N = (Cert.KMIdeal.Gen.dats m 0 c).arrAt 6 Cert.KMIdeal.cfg0.N := by
  refine ((Cert.RMIdeal.Value.arr8 m' c).trans ?_).trans (Cert.KMIdeal.Value.arr6 m c).symm
  rw [ec, ea, ee, ew]
theorem dx_same (ec : Cert.RMIdeal.Value.cdy m' c = Cert.KMIdeal.Value.cdy m c) (ea : Cert.RMIdeal.Value.aw m' c = Cert.KMIdeal.Value.aw m c)
    (ee : Cert.RMIdeal.Value.edy m' c = Cert.KMIdeal.Value.edy m c) (ew : Cert.RMIdeal.Value.ew m' c = Cert.KMIdeal.Value.ew m c) :
    (Cert.RMIdeal.Gen.dats m' 0 c).arrAt 9 Cert.RMIdeal.cfg0.N = (Cert.KMIdeal.Gen.dats m 0 c).arrAt 7 Cert.KMIdeal.cfg0.N := by
  refine ((Cert.RMIdeal.Value.arr9 m' c).trans ?_).trans (Cert.KMIdeal.Value.arr7 m c).symm
  rw [ec, ea, ee, ew]
theorem dw_same (ec : Cert.RMIdeal.Value.cx m' c = Cert.KMIdeal.Value.cx m c) (ed : Cert.RMIdeal.Value.cdy m' c = Cert.KMIdeal.Value.cdy m c)
    (ee : Cert.RMIdeal.Value.ex m' c = Cert.KMIdeal.Value.ex m c) (eg : Cert.RMIdeal.Value.edy m' c = Cert.KMIdeal.Value.edy m c) :
    (Cert.RMIdeal.Gen.dats m' 0 c).arrAt 10 Cert.RMIdeal.cfg0.N = (Cert.KMIdeal.Gen.dats m 0 c).arrAt 8 Cert.KMIdeal.cfg0.N := by
  refine ((Cert.RMIdeal.Value.arr10 m' c).trans ?_).trans (Cert.KMIdeal.Value.arr8 m c).symm
  rw [ec, ed, ee, eg]

/-- The activations' new history: both sides put the same bound at its end. -/
theorem newX_same (ea : Cert.RMIdeal.Value.ax m' c = Cert.KMIdeal.Value.ax m c) (eh : Cert.RMIdeal.Value.hx m' c = Cert.KMIdeal.Value.hx m c) :
    Cert.RMIdeal.Value.new_x (Cert.RMIdeal.Value.hx m' c) (Cert.RMIdeal.Value.ax m' c)
      = (Cert.KMIdeal.Gen.dats m 0 c).arrAt 11 Cert.KMIdeal.cfg0.N := by
  obtain ⟨v, hv, h⟩ := Cert.KMIdeal.Value.arr11 m c
  refine (Cert.RMIdeal.Value.new_x_eq _ _ v fun b => ?_).trans ?_
  · rw [ea]; exact hv b
  · rw [eh]; exact h.symm
/-- The gradients' new history. -/
theorem newDy_same (ea : Cert.RMIdeal.Value.ady m' c = Cert.KMIdeal.Value.ady m c) (eh : Cert.RMIdeal.Value.hdy m' c = Cert.KMIdeal.Value.hdy m c) :
    Cert.RMIdeal.Value.new_dy (Cert.RMIdeal.Value.hdy m' c) (Cert.RMIdeal.Value.ady m' c)
      = (Cert.KMIdeal.Gen.dats m 0 c).arrAt 12 Cert.KMIdeal.cfg0.N := by
  obtain ⟨v, hv, h⟩ := Cert.KMIdeal.Value.arr12 m c
  refine (Cert.RMIdeal.Value.new_dy_eq _ _ v fun b => ?_).trans ?_
  · rw [ea]; exact hv b
  · rw [eh]; exact h.symm

end results

/-! ## The claim -/

theorem value_M : Cert.algebraic_KMIdeal_RMIdeal := by
  intro m g m' g' _ hm
  refine ⟨fun c => (Cert.KMIdeal.Gen.dats m 0 c).arrAt 6 _, fun c => (Cert.KMIdeal.Gen.dats m 0 c).arrAt 7 _, fun c => (Cert.KMIdeal.Gen.dats m 0 c).arrAt 8 _,
    fun c => (Cert.KMIdeal.Gen.dats m 0 c).arrAt 9 _, fun c => (Cert.KMIdeal.Gen.dats m 0 c).arrAt 10 _, fun c => (Cert.KMIdeal.Gen.dats m 0 c).arrAt 11 _,
    fun c => (Cert.KMIdeal.Gen.dats m 0 c).arrAt 12 _, fun c => (Cert.KMIdeal.Gen.dats m 0 c).arrAt 13 _, fun c => (Cert.KMIdeal.Gen.dats m 0 c).arrAt 14 _,
    Cert.KMIdeal.Value.run_blocks m g, ?_⟩
  refine (θ_run _ _ _).mono (fun r h c => ?_) (Cert.RMIdeal.Value.run_all m' g')
  obtain ⟨h1, h2, h3, h4, h5, h6, h7, h8, h9, hk⟩ := h c
  obtain ⟨e0, e1, e2, e3, e4, e5⟩ := hm c
  have ex := ex_same m m' c e3
  have ew := ew_same m m' c e4
  have ed := edy_same m m' c e5
  have cx := cx_same m m' c e0 ex
  have cd := cdy_same m m' c e2 ed
  refine ⟨h1.trans (y_same m m' c cx e1 ex ew), h2.trans (dx_same m m' c cd e1 ed ew), h3.trans (dw_same m m' c cx cd ex ed),
    h4.trans ?_, h5.trans ?_, h6.trans (newX_same m m' c e0 e3), h7.trans (newDy_same m m' c e2 e5), h8.trans ?_, h9.trans ?_, hk⟩
  · exact ((Cert.RMIdeal.Value.arr11 m' c).trans cx).trans (Cert.KMIdeal.Value.arr9 m c).symm
  · exact ((Cert.RMIdeal.Value.arr12 m' c).trans cd).trans (Cert.KMIdeal.Value.arr10 m c).symm
  · exact (congrArg (fun (n : BitVec 32) (_ : Cert.KMIdeal.S1.Idx) => kpow2 n) ex).trans (Cert.KMIdeal.Value.arr13 m c).symm
  · exact (congrArg (fun (n : BitVec 32) (_ : Cert.KMIdeal.S1.Idx) => kpow2 n) ed).trans (Cert.KMIdeal.Value.arr14 m c).symm

end Cert.Proof
-- ==== Proof.lean ====
/- The proof of the certificate. -/
module

public import proofs.«01_k».proof.Defs
public import proofs.«01_k».proof.Proof.Gen.KW
public import proofs.«01_k».proof.Proof.Gen.KW.Frame
public import proofs.«01_k».proof.Proof.Gen.KWIdeal
public import proofs.«01_k».proof.Proof.Gen.KWIdeal.Frame
public import proofs.«01_k».proof.Proof.Gen.KM
public import proofs.«01_k».proof.Proof.Gen.KM.Frame
public import proofs.«01_k».proof.Proof.Gen.KMIdeal
public import proofs.«01_k».proof.Proof.Gen.KMIdeal.Frame
public import proofs.«01_k».proof.Proof.Gen.RMIdeal
public import proofs.«01_k».proof.Proof.Gen.RMIdeal.Frame
public import proofs.«01_k».proof.Proof.Gen.RWIdeal
public import proofs.«01_k».proof.Proof.Gen.KWIdeal.Value
public import proofs.«01_k».proof.Proof.Gen.KMIdeal.Value
public import proofs.«01_k».proof.Proof.Gen.RMIdeal.Value
public import proofs.«01_k».proof.Proof.Gen.RWIdeal.Run
public import proofs.«01_k».proof.Proof.WRef
public import proofs.«01_k».proof.Proof.MRef
public import Idealize.ShloMosaic.Adequacy
public import Idealize.ShloMosaic.Init

@[expose] public section

noncomputable section

namespace Cert.Proof

open Idealize.ShloMosaic Idealize.SL.Sem

theorem claim : Cert.Claim := ⟨Cert.KW.Gen.facts, Cert.KWIdeal.Gen.facts, Cert.RWIdeal.Gen.facts, Cert.KM.Gen.facts, Cert.KMIdeal.Gen.facts, Cert.RMIdeal.Gen.facts,
  fun m ρ _ => Cert.KW.Gen.frame m ρ, fun m ρ _ => Cert.KWIdeal.Gen.frame m ρ, quiet_RW,
  fun m ρ _ => Cert.KM.Gen.frame m ρ, fun m ρ _ => Cert.KMIdeal.Gen.frame m ρ, fun m ρ _ => Cert.RMIdeal.Gen.frame m ρ,
  trivial, value_W, trivial, value_M⟩

end Cert.Proof

end
